-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ClippedIdeal_on_clip_is_idle [hKernelIdeal : Cert.KernelIdeal.Facts] [hClippedIdeal : Cert.ClippedIdeal.Facts] [hOn_clip_is_idle : Cert.On_clip_is_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)
      ∧ m ((c.tc : Thread Cert.KernelIdeal.nD Cert.KernelIdeal.τ).loc Cert.KernelIdeal.main_arg2) = m' (((0 : Dev Cert.ClippedIdeal.nD).tc : Thread Cert.ClippedIdeal.nD Cert.ClippedIdeal.τ).loc Cert.ClippedIdeal.main_arg2)
      ∧ m ((c.tc : Thread Cert.KernelIdeal.nD Cert.KernelIdeal.τ).loc Cert.KernelIdeal.main_arg3) = m' (((0 : Dev Cert.ClippedIdeal.nD).tc : Thread Cert.ClippedIdeal.nD Cert.ClippedIdeal.τ).loc Cert.ClippedIdeal.main_arg3)) →
    ∃ (v0 : Buf (Elt Ideal) (((0 : Dev Cert.ClippedIdeal.nD).tc : Thread Cert.ClippedIdeal.nD Cert.ClippedIdeal.τ).loc Cert.ClippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 8192]⟩ : Shape).Idx, (Layout.block ⟨2, ![512, 8192]⟩ ⟨2, ![4096, 8192]⟩ 0 8 c ((Cert.On_clip_is_idle.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3)))) : (⟨2, ![512, 8192]⟩ : Shape).Idx → _) i = 1#1 → r.2.mem ((c.tc : Thread Cert.KernelIdeal.nD Cert.KernelIdeal.τ).loc Cert.KernelIdeal.main_v1) i = (Layout.block ⟨2, ![512, 8192]⟩ ⟨2, ![4096, 8192]⟩ 0 8 c v0 : (⟨2, ![512, 8192]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 8192]⟩ : Shape).Idx, (Cert.On_clip_is_idle.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3))) i = 1#1 → r.2.mem (((0 : Dev Cert.ClippedIdeal.nD).tc : Thread Cert.ClippedIdeal.nD Cert.ClippedIdeal.τ).loc Cert.ClippedIdeal.main_v10) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1)
          ∧ r.2.mem (((0 : Dev Cert.ClippedIdeal.nD).tc : Thread Cert.ClippedIdeal.nD Cert.ClippedIdeal.τ).loc Cert.ClippedIdeal.main_arg2) = m' (((0 : Dev Cert.ClippedIdeal.nD).tc : Thread Cert.ClippedIdeal.nD Cert.ClippedIdeal.τ).loc Cert.ClippedIdeal.main_arg2)
          ∧ r.2.mem (((0 : Dev Cert.ClippedIdeal.nD).tc : Thread Cert.ClippedIdeal.nD Cert.ClippedIdeal.τ).loc Cert.ClippedIdeal.main_arg3) = m' (((0 : Dev Cert.ClippedIdeal.nD).tc : Thread Cert.ClippedIdeal.nD Cert.ClippedIdeal.τ).loc Cert.ClippedIdeal.main_arg3))

def Claim : Prop :=
  ∃ (hKernel : Cert.Kernel.Facts) (hKernelIdeal : Cert.KernelIdeal.Facts) (hReferenceIdeal : Cert.ReferenceIdeal.Facts) (hClippedIdeal : Cert.ClippedIdeal.Facts) (hOn_clip_is_idle : Cert.On_clip_is_idle.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_clip_is_idle (hKernelIdeal := hKernelIdeal) (hClippedIdeal := hClippedIdeal) (hOn_clip_is_idle := hOn_clip_is_idle)
-- ==== On_clip_is_idle.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) (main_arg2 : FVec F S1 .f32) (main_arg3 : FVec F S1 .f32) : IVec S4096x8192 1 :=
  let main_v0 : FVec F S4096x8192 .f32 := (fun l r => Host.dotGeneral dot_S4096x4096_S4096x8192_S4096x8192_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x8192 .f32 := broadcastInDim S4096x8192 ![0, 1] bcast_S1x1_S4096x8192_0_1 main_v2
  let main_v4 : FVec F S4096x8192 .f32 := mulf main_v0 main_v3
  let main_cst : FVec F S_ .f32 := constant S_ .f32 0xC2700000#32
  let main_v5 : FVec F S4096x8192 .f32 := broadcastInDim S4096x8192 ![] bcast_S_S4096x8192 main_cst
  let main_v6 : IVec S4096x8192 1 := cmpf .oge main_v4 main_v5
  let main_cst_0 : FVec F S_ .f32 := constant S_ .f32 0x42700000#32
  let main_v7 : FVec F S4096x8192 .f32 := broadcastInDim S4096x8192 ![] bcast_S_S4096x8192 main_cst_0
  let main_v8 : IVec S4096x8192 1 := cmpf .ole main_v4 main_v7
  let main_v9 : IVec S4096x8192 1 := andi main_v6 main_v8
  main_v9
-- ==== Kernel.lean ====
abbrev S4096x512 : Shape := ⟨2, ![4096, 512]⟩
abbrev S4096x8192 : Shape := ⟨2, ![4096, 8192]⟩
abbrev S1 : Shape := ⟨1, ![1]⟩
abbrev S512x8192 : Shape := ⟨2, ![512, 8192]⟩
abbrev S512x4096 : Shape := ⟨2, ![512, 4096]⟩
abbrev S2x4096x512 : Shape := ⟨3, ![2, 4096, 512]⟩
abbrev S8x4096x512 : Shape := ⟨3, ![8, 4096, 512]⟩
abbrev S2x512x512 : Shape := ⟨3, ![2, 512, 512]⟩
abbrev S2 : Shape := ⟨1, ![2]⟩
abbrev S7 : Shape := ⟨1, ![7]⟩
abbrev S_ : Shape := ⟨0, ![]⟩
abbrev S1x4096x512 : Shape := ⟨3, ![1, 4096, 512]⟩
abbrev S512x512 : Shape := ⟨2, ![512, 512]⟩
abbrev S1x512x512 : Shape := ⟨3, ![1, 512, 512]⟩

abbrev nBuf : Space → Nat
  | .hbm => 5
  | .vmem => 6
  | .smem => 2
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .f32⟩
  | .local _ .vmem, ⟨1, _⟩ => ⟨S4096x512, .fp8e4m3⟩
  | .local _ .vmem, ⟨2, _⟩ => ⟨S512x4096, .fp8e4m3⟩
  | .local _ .vmem, ⟨3, _⟩ => ⟨S2x4096x512, .f32⟩
  | .local _ .vmem, ⟨4, _⟩ => ⟨S8x4096x512, .fp8e4m3⟩
  | .local _ .vmem, ⟨5, _⟩ => ⟨S2x512x512, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_43 : BitVec 32 := 512#32
  let v48 : BitVec 32 := Scalar.muli v2 c512_i32_43
  let v49 : Index := Scalar.indexCast v48
  let c0_44 : Index := 0#32
  ![v49.toNat, 0]
def k0_off2 (d0 : Dev nD) : Fin 2 → Nat :=
  let c0_46 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_45 : BitVec 32 := 512#32
  let v51 : BitVec 32 := Scalar.muli v2 c512_i32_45
  let v52 : Index := Scalar.indexCast v51
  ![0, v52.toNat]
def k0_off3 (d0 : Dev nD) : Fin 2 → Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_50 : BitVec 32 := 512#32
  let v59 : BitVec 32 := Scalar.muli v2 c512_i32_50
  ![0, v59.toNat]
def k0_off4 (d0 : Dev nD) (c1_i32_47 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v56 : BitVec 32 := Scalar.addi v2 c1_i32_47
  let c8_i32_48 : BitVec 32 := 8#32
  let v57 : BitVec 32 := Scalar.remsi v56 c8_i32_48
  let c512_i32_49 : BitVec 32 := 512#32
  let v58 : BitVec 32 := Scalar.muli v57 c512_i32_49
  let c0_i32_56 : BitVec 32 := 0#32
  ![v58.toNat, 0]
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v56 : BitVec 32 := Scalar.addi v2 c1_i32_47
  let c8_i32_48 : BitVec 32 := 8#32
  let v57 : BitVec 32 := Scalar.remsi v56 c8_i32_48
  let c1_i32_53 : BitVec 32 := 1#32
  let v60 : BitVec 32 := Scalar.muli v57 c1_i32_53
  let v61 : BitVec 32 := Scalar.addi c0_i32_54 v60
  v61.toNat
def k0_dev9 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let v68 : BitVec 32 := Scalar.addi v2 c2_i32_57
  let c8_i32_58 : BitVec 32 := 8#32
  let v69 : BitVec 32 := Scalar.remsi v68 c8_i32_58
  let c1_i32_63 : BitVec 32 := 1#32
  let v72 : BitVec 32 := Scalar.muli v69 c1_i32_63
  let v73 : BitVec 32 := Scalar.addi c0_i32_64 v72
  v73.toNat
def k0_dev10 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_67 : BitVec 32 := 3#32
  let v80 : BitVec 32 := Scalar.addi v2 c3_i32_67
  let c8_i32_68 : BitVec 32 := 8#32
  let v81 : BitVec 32 := Scalar.remsi v80 c8_i32_68
  let c1_i32_73 : BitVec 32 := 1#32
  let v84 : BitVec 32 := Scalar.muli v81 c1_i32_73
  let v85 : BitVec 32 := Scalar.addi c0_i32_74 v84
  v85.toNat
def k0_dev11 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_77 : BitVec 32 := 4#32
  let v92 : BitVec 32 := Scalar.addi v2 c4_i32_77
  let c8_i32_78 : BitVec 32 := 8#32
  let v93 : BitVec 32 := Scalar.remsi v92 c8_i32_78
  let c1_i32_83 : BitVec 32 := 1#32
  let v96 : BitVec 32 := Scalar.muli v93 c1_i32_83
  let v97 : BitVec 32 := Scalar.addi c0_i32_84 v96
  v97.toNat
def k0_dev12 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_87 : BitVec 32 := 5#32
  let v104 : BitVec 32 := Scalar.addi v2 c5_i32_87
  let c8_i32_88 : BitVec 32 := 8#32
  let v105 : BitVec 32 := Scalar.remsi v104 c8_i32_88
  let c1_i32_93 : BitVec 32 := 1#32
  let v108 : BitVec 32 := Scalar.muli v105 c1_i32_93
  let v109 : BitVec 32 := Scalar.addi c0_i32_94 v108
  v109.toNat
def k0_dev13 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_97 : BitVec 32 := 6#32
  let v116 : BitVec 32 := Scalar.addi v2 c6_i32_97
  let c8_i32_98 : BitVec 32 := 8#32
  let v117 : BitVec 32 := Scalar.remsi v116 c8_i32_98
  let c1_i32_103 : BitVec 32 := 1#32
  let v120 : BitVec 32 := Scalar.muli v117 c1_i32_103
  let v121 : BitVec 32 := Scalar.addi c0_i32_104 v120
  v121.toNat
def k0_dev14 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_107 : BitVec 32 := 7#32
  let v128 : BitVec 32 := Scalar.addi v2 c7_i32_107
  let c8_i32_108 : BitVec 32 := 8#32
  let v129 : BitVec 32 := Scalar.remsi v128 c8_i32_108
  let c1_i32_113 : BitVec 32 := 1#32
  let v132 : BitVec 32 := Scalar.muli v129 c1_i32_113
  let v133 : BitVec 32 := Scalar.addi c0_i32_114 v132
  v133.toNat
def k0_off5 (d0 : Dev nD) (c1_i32_246 : BitVec 32) : Fin 2 → Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.subi v2 c1_i32_246
  let c8_i32_247 : BitVec 32 := 8#32
  let v269 : BitVec 32 := Scalar.addi v268 c8_i32_247
  let c8_i32_248 : BitVec 32 := 8#32
  let v270 : BitVec 32 := Scalar.remsi v269 c8_i32_248
  let c512_i32_249 : BitVec 32 := 512#32
  let v271 : BitVec 32 := Scalar.muli v270 c512_i32_249
  ![0, v271.toNat]
@[reducible] def k0_t1_loop : Scf.Loop 32 :=
  let c0_i32_325 : BitVec 32 := 0#32
  let c16_i32 : BitVec 32 := 16#32
  let v341 : BitVec 32 := Scalar.addi c0_i32_325 c16_i32
  let c1_i32_326 : BitVec 32 := 1#32
  ⟨c0_i32_325, v341, c1_i32_326⟩
def k0_cond1 (k0_t1 : Fin k0_t1_loop.trips) : BitVec 1 :=
  let c0_i32_325 : BitVec 32 := 0#32
  let c1_i32_326 : BitVec 32 := 1#32
  let arg14 : BitVec 32 := Scf.iv c0_i32_325 c1_i32_326 k0_t1
  let c2_i32_374 : BitVec 32 := 2#32
  let v381 : BitVec 1 := Scalar.cmpi .sge arg14 c2_i32_374
  let v382 : BitVec 32 := Scalar.extui v381
  let c0_i32_375 : BitVec 32 := 0#32
  let v383 : BitVec 1 := Scalar.cmpi .ne v382 c0_i32_375
  v383

def k0_off6 (k0_t1 : Fin k0_t1_loop.trips) : Fin 1 → Nat :=
  let c0_i32_325 : BitVec 32 := 0#32
  let c1_i32_326 : BitVec 32 := 1#32
  let arg14 : BitVec 32 := Scf.iv c0_i32_325 c1_i32_326 k0_t1
  let c2_i32_373 : BitVec 32 := 2#32
  let v380 : BitVec 32 := Scalar.remsi arg14 c2_i32_373
  ![v380.toNat]
def k0_off7 (k0_t1 : Fin k0_t1_loop.trips) : Fin 2 → Nat :=
  let c0_i32_392 : BitVec 32 := 0#32
  let c0_i32_325 : BitVec 32 := 0#32
  let c1_i32_326 : BitVec 32 := 1#32
  let arg14 : BitVec 32 := Scf.iv c0_i32_325 c1_i32_326 k0_t1
  let c2_i32_390 : BitVec 32 := 2#32
  let v408 : BitVec 32 := Scalar.subi arg14 c2_i32_390
  let c512_i32_391 : BitVec 32 := 512#32
  let v409 : BitVec 32 := Scalar.muli v408 c512_i32_391
  ![0, v409.toNat]
def k0_off8 (k0_t1 : Fin k0_t1_loop.trips) : Fin 3 → Nat :=
  let c0_i32_325 : BitVec 32 := 0#32
  let c1_i32_326 : BitVec 32 := 1#32
  let arg14 : BitVec 32 := Scf.iv c0_i32_325 c1_i32_326 k0_t1
  let c2_i32_373 : BitVec 32 := 2#32
  let v380 : BitVec 32 := Scalar.remsi arg14 c2_i32_373
  let c0_i32_393 : BitVec 32 := 0#32
  let c0_i32_394 : BitVec 32 := 0#32
  ![v380.toNat, 0, 0]
def k0_off9 (k0_t1 : Fin k0_t1_loop.trips) : Fin 3 → Nat :=
  let c0_i32_325 : BitVec 32 := 0#32
  let c1_i32_326 : BitVec 32 := 1#32
  let arg14 : BitVec 32 := Scf.iv c0_i32_325 c1_i32_326 k0_t1
  let c8_i32_378 : BitVec 32 := 8#32
  let v385 : BitVec 32 := Scalar.remsi arg14 c8_i32_378
  let v386 : Index := Scalar.indexCast v385
  let c0_379 : Index := 0#32
  let c0_380 : Index := 0#32
  ![v386.toNat, 0, 0]
def k0_off10 (k0_t1 : Fin k0_t1_loop.trips) : Fin 3 → Nat :=
  let c0_i32_325 : BitVec 32 := 0#32
  let c1_i32_326 : BitVec 32 := 1#32
  let arg14 : BitVec 32 := Scf.iv c0_i32_325 c1_i32_326 k0_t1
  let c2_i32_373 : BitVec 32 := 2#32
  let v380 : BitVec 32 := Scalar.remsi arg14 c2_i32_373
  let v394 : Index := Scalar.indexCast v380
  let c0_381 : Index := 0#32
  let c0_382 : Index := 0#32
  ![v394.toNat, 0, 0]
def k0_off11 (k0_t1 : Fin k0_t1_loop.trips) : Fin 1 → Nat :=
  let c0_i32_325 : BitVec 32 := 0#32
  let c1_i32_326 : BitVec 32 := 1#32
  let arg14 : BitVec 32 := Scf.iv c0_i32_325 c1_i32_326 k0_t1
  let c2_i32_373 : BitVec 32 := 2#32
  let v380 : BitVec 32 := Scalar.remsi arg14 c2_i32_373
  ![v380.toNat]
def k0_off12 (k0_t1 : Fin k0_t1_loop.trips) : Fin 2 → Nat :=
  let c0_i32_384 : BitVec 32 := 0#32
  let c0_i32_325 : BitVec 32 := 0#32
  let c1_i32_326 : BitVec 32 := 1#32
  let arg14 : BitVec 32 := Scf.iv c0_i32_325 c1_i32_326 k0_t1
  let c512_i32_383 : BitVec 32 := 512#32
  let v398 : BitVec 32 := Scalar.muli arg14 c512_i32_383
  ![0, v398.toNat]
def k0_off13 (k0_t1 : Fin k0_t1_loop.trips) : Fin 3 → Nat :=
  let c0_i32_325 : BitVec 32 := 0#32
  let c1_i32_326 : BitVec 32 := 1#32
  let arg14 : BitVec 32 := Scf.iv c0_i32_325 c1_i32_326 k0_t1
  let c2_i32_373 : BitVec 32 := 2#32
  let v380 : BitVec 32 := Scalar.remsi arg14 c2_i32_373
  let c0_i32_385 : BitVec 32 := 0#32
  let c0_i32_386 : BitVec 32 := 0#32
  ![v380.toNat, 0, 0]
def k0_cond2 (k0_t1 : Fin k0_t1_loop.trips) : BitVec 1 :=
  let c0_i32_325 : BitVec 32 := 0#32
  let c1_i32_326 : BitVec 32 := 1#32
  let arg14 : BitVec 32 := Scf.iv c0_i32_325 c1_i32_326 k0_t1
  let c8_i32_387 : BitVec 32 := 8#32
  let v404 : BitVec 32 := Scalar.addi arg14 c8_i32_387
  let c16_i32_388 : BitVec 32 := 16#32
  let v405 : BitVec 1 := Scalar.cmpi .slt v404 c16_i32_388
  let v406 : BitVec 32 := Scalar.extui v405
  let c0_i32_389 : BitVec 32 := 0#32
  let v407 : BitVec 1 := Scalar.cmpi .ne v406 c0_i32_389
  v407

def k0_off14 (k0_t1 : Fin k0_t1_loop.trips) : Fin 1 → Nat :=
  let c0_i32_325 : BitVec 32 := 0#32
  let c1_i32_326 : BitVec 32 := 1#32
  let arg14 : BitVec 32 := Scf.iv c0_i32_325 c1_i32_326 k0_t1
  let c2_i32_390 : BitVec 32 := 2#32
  let v408 : BitVec 32 := Scalar.remsi arg14 c2_i32_390
  ![v408.toNat]
def k0_off15 (k0_t1 : Fin k0_t1_loop.trips) : Fin 3 → Nat :=
  let c0_i32_325 : BitVec 32 := 0#32
  let c1_i32_326 : BitVec 32 := 1#32
  let arg14 : BitVec 32 := Scf.iv c0_i32_325 c1_i32_326 k0_t1
  let c2_i32_390 : BitVec 32 := 2#32
  let v408 : BitVec 32 := Scalar.remsi arg14 c2_i32_390
  let c0_i32_393 : BitVec 32 := 0#32
  let c0_i32_394 : BitVec 32 := 0#32
  ![v408.toNat, 0, 0]
def k0_off16 (k0_t1 : Fin k0_t1_loop.trips) : Fin 2 → Nat :=
  let c0_i32_395 : BitVec 32 := 0#32
  let c0_i32_325 : BitVec 32 := 0#32
  let c1_i32_326 : BitVec 32 := 1#32
  let arg14 : BitVec 32 := Scf.iv c0_i32_325 c1_i32_326 k0_t1
  let c8_i32_391 : BitVec 32 := 8#32
  let v409 : BitVec 32 := Scalar.addi arg14 c8_i32_391
  let c512_i32_392 : BitVec 32 := 512#32
  let v410 : BitVec 32 := Scalar.muli v409 c512_i32_392
  ![0, v410.toNat]
def k0_off17 (k0_t1 : Fin k0_t1_loop.trips) : Fin 3 → Nat :=
  let c0_i32_325 : BitVec 32 := 0#32
  let c1_i32_326 : BitVec 32 := 1#32
  let arg14 : BitVec 32 := Scf.iv c0_i32_325 c1_i32_326 k0_t1
  let c2_i32_390 : BitVec 32 := 2#32
  let v408 : BitVec 32 := Scalar.remsi arg14 c2_i32_390
  let v416 : Index := Scalar.indexCast v408
  let c0_396 : Index := 0#32
  let c0_397 : Index := 0#32
  ![v416.toNat, 0, 0]
def k0_off18 (k0_t1 : Fin k0_t1_loop.trips) : Fin 3 → Nat :=
  let c0_i32_325 : BitVec 32 := 0#32
  let c1_i32_326 : BitVec 32 := 1#32
  let arg14 : BitVec 32 := Scf.iv c0_i32_325 c1_i32_326 k0_t1
  let c8_i32_398 : BitVec 32 := 8#32
  let v420 : BitVec 32 := Scalar.remsi arg14 c8_i32_398
  let v421 : Index := Scalar.indexCast v420
  let c0_399 : Index := 0#32
  let c0_400 : Index := 0#32
  ![v421.toNat, 0, 0]
def k0_cond3 (k0_t1 : Fin k0_t1_loop.trips) : BitVec 1 :=
  let c0_i32_325 : BitVec 32 := 0#32
  let c1_i32_326 : BitVec 32 := 1#32
  let arg14 : BitVec 32 := Scf.iv c0_i32_325 c1_i32_326 k0_t1
  let c8_i32_401 : BitVec 32 := 8#32
  let v425 : BitVec 32 := Scalar.addi arg14 c8_i32_401
  let c2_i32_402 : BitVec 32 := 2#32
  let v426 : BitVec 32 := Scalar.addi v425 c2_i32_402
  let c16_i32_403 : BitVec 32 := 16#32
  let v427 : BitVec 1 := Scalar.cmpi .slt v426 c16_i32_403
  let v428 : BitVec 32 := Scalar.extui v427
  let c0_i32_404 : BitVec 32 := 0#32
  let v429 : BitVec 1 := Scalar.cmpi .ne v428 c0_i32_404
  v429

def k0_off19 (k0_t1 : Fin k0_t1_loop.trips) : Fin 1 → Nat :=
  let c0_i32_325 : BitVec 32 := 0#32
  let c1_i32_326 : BitVec 32 := 1#32
  let arg14 : BitVec 32 := Scf.iv c0_i32_325 c1_i32_326 k0_t1
  let c2_i32_390 : BitVec 32 := 2#32
  let v408 : BitVec 32 := Scalar.remsi arg14 c2_i32_390
  ![v408.toNat]
def k0_off20 (k0_t1 : Fin k0_t1_loop.trips) : Fin 3 → Nat :=
  let c0_i32_325 : BitVec 32 := 0#32
  let c1_i32_326 : BitVec 32 := 1#32
  let arg14 : BitVec 32 := Scf.iv c0_i32_325 c1_i32_326 k0_t1
  let c2_i32_390 : BitVec 32 := 2#32
  let v408 : BitVec 32 := Scalar.remsi arg14 c2_i32_390
  let c0_i32_408 : BitVec 32 := 0#32
  let c0_i32_409 : BitVec 32 := 0#32
  ![v408.toNat, 0, 0]
def k0_off21 (k0_t1 : Fin k0_t1_loop.trips) : Fin 2 → Nat :=
  let c0_i32_410 : BitVec 32 := 0#32
  let c0_i32_325 : BitVec 32 := 0#32
  let c1_i32_326 : BitVec 32 := 1#32
  let arg14 : BitVec 32 := Scf.iv c0_i32_325 c1_i32_326 k0_t1
  let c8_i32_405 : BitVec 32 := 8#32
  let v430 : BitVec 32 := Scalar.addi arg14 c8_i32_405
  let c2_i32_406 : BitVec 32 := 2#32
  let v431 : BitVec 32 := Scalar.addi v430 c2_i32_406
  let c512_i32_407 : BitVec 32 := 512#32
  let v432 : BitVec 32 := Scalar.muli v431 c512_i32_407
  ![0, v432.toNat]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ClippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Base.lean ====
/-
# The all-to-all product: devices, semaphore cells, index sets and contents

The kernel runs on eight devices. Device `c` holds a column block of `x`; it casts it, sends row block `p` of it
to device `p`, and collects in its own gathered row block the eight column blocks that belong to its rows. The
weights come in sixteen column tiles through two slots, are cast into eight slots, and each tile's product leaves
through two output slots.

This module fixes the vocabulary: rotation of the ring of devices, the semaphore cells by number, the index sets
(`cut`: the indices whose coordinate on one axis lies in one block), and what every buffer holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.ValueLayout
public import Idealize.ShloMosaic.Lib.Transfers
public import Idealize.ShloMosaic.Lib.Ring
public import Idealize.ShloMosaic.Lib.Scf
public import Idealize.ShloMosaic.Lib.Tactic
public import Idealize.SL.BI.BigOpNat

@[expose] public section

noncomputable section

namespace Cert.A2A

open Cert.KernelIdeal Cert.KernelIdeal.Gen
open Idealize.ShloMosaic Idealize.ShloMosaic.TcCoe
open Idealize.ShloMosaic.ValueIdx (ix2 ix3)

variable {F : FTy → Type} [FloatOps F]

/-! ## The ring of devices -/

/-- The device `k` places after `c`. -/
def rot (k : ℕ) (c : Dev nD) : Dev nD := ⟨(c.val + k) % 8, Nat.mod_lt _ (by decide)⟩

theorem rot_val (k : ℕ) (c : Dev nD) : (rot k c).val = (c.val + k) % 8 := rfl

theorem rot_rot (a b : ℕ) (c : Dev nD) : rot a (rot b c) = rot (a + b) c :=
  Fin.ext (by simp only [rot_val]; omega)

theorem rot_eight (c : Dev nD) : rot 8 c = c := Fin.ext (by have : c.val < 8 := c.isLt; simp only [rot_val]; omega)

theorem rot_back {s : ℕ} (h : s < 7) (c : Dev nD) : rot (7 - s) (rot (s + 1) c) = c := by
  rw [rot_rot, show 7 - s + (s + 1) = 8 by omega, rot_eight]

theorem rot_fwd {s : ℕ} (h : s < 7) (c : Dev nD) : rot (s + 1) (rot (7 - s) c) = c := by
  rw [rot_rot, show s + 1 + (7 - s) = 8 by omega, rot_eight]

/-- Rotation by `k`, for `k ≤ 8`, as a bijection. -/
def rotEquiv (k : ℕ) (h : k ≤ 8) : Dev nD ≃ Dev nD where
  toFun := rot k
  invFun := rot (8 - k)
  left_inv c := by rw [rot_rot, show 8 - k + k = 8 by omega, rot_eight]
  right_inv c := by rw [rot_rot, show k + (8 - k) = 8 by omega, rot_eight]

/-! ## Semaphore cells by number -/

/-- The launch's barrier semaphore. -/
abbrev barS : Sem sig := (SemArray.scalar (sig.barrier 0 rfl) : Sems sig S_).sem

/-- The transfer semaphore of number `n`. -/
def dq (n : ℕ) : DmaSem sig := ⟨n % 21, Nat.mod_lt _ (by decide)⟩

theorem dq_val {n : ℕ} (h : n < 21) : (dq n).val = n := Nat.mod_eq_of_lt h

theorem dq_inj {a b : ℕ} (ha : a < 21) (hb : b < 21) (h : dq a = dq b) : a = b := by
  rw [← dq_val ha, ← dq_val hb, h]

abbrev barCell (c : Dev nD) : GSem nD τ sig := ((c : Thread nD τ), .reg barS)
/-- The cell device `c`'s send number `s` signals on device `c`, -/
abbrev sendCell (c : Dev nD) (s : ℕ) : GSem nD τ sig := ((c : Thread nD τ), .dma (dq (7 + s)))
/-- and the one that a send number `s` to device `c` signals there. -/
abbrev recvCell (c : Dev nD) (s : ℕ) : GSem nD τ sig := ((c : Thread nD τ), .dma (dq (14 + s)))
/-- The cell of weight slot `s`, -/
abbrev copyCell (c : Dev nD) (s : ℕ) : GSem nD τ sig := ((c : Thread nD τ), .dma (dq (3 + s)))
/-- and of output slot `s`. -/
abbrev outCell (c : Dev nD) (s : ℕ) : GSem nD τ sig := ((c : Thread nD τ), .dma (dq (5 + s)))

theorem copy_sem {o : Fin 1 → ℕ} {inb} {s : ℕ} (hs : s < 2) (h : o = ![s]) :
    ((cc0_scratch5.slice (Rect.unit (s := S2) o S1.size inb)).squeeze S_ squeezes_S1_S_).sem = dq (3 + s) := by
  subst h; interval_cases s <;> decide +revert

theorem out_sem {o : Fin 1 → ℕ} {inb} {s : ℕ} (hs : s < 2) (h : o = ![s]) :
    ((cc0_scratch6.slice (Rect.unit (s := S2) o S1.size inb)).squeeze S_ squeezes_S1_S_).sem = dq (5 + s) := by
  subst h; interval_cases s <;> decide +revert

theorem send_sem {o : Fin 1 → ℕ} {inb} {s : ℕ} (hs : s < 7) (h : o = ![s]) :
    ((cc0_scratch7.slice (Rect.unit (s := S7) o S1.size inb)).squeeze S_ squeezes_S1_S_).sem = dq (7 + s) := by
  subst h; interval_cases s <;> decide +revert

theorem recv_sem {o : Fin 1 → ℕ} {inb} {s : ℕ} (hs : s < 7) (h : o = ![s]) :
    ((cc0_scratch8.slice (Rect.unit (s := S7) o S1.size inb)).squeeze S_ squeezes_S1_S_).sem = dq (14 + s) := by
  subst h; interval_cases s <;> decide +revert

/-! ## Index sets -/

/-- The indices whose coordinate on axis `a` lies in block `p` of blocks of `b`. -/
def cut {s : Shape} (a : Fin s.rank) (b p : ℕ) : Finset s.Idx := Finset.univ.filter fun i => (i a).val / b = p

theorem mem_cut {s : Shape} {a : Fin s.rank} {b p : ℕ} {i : s.Idx} : i ∈ cut a b p ↔ (i a).val / b = p := by
  unfold cut; rw [Finset.mem_filter]; exact and_iff_right (Finset.mem_univ _)

/-- A rectangle that is one block on axis `a` and everything on the others is a `cut`. -/
theorem unit_set_eq_cut {s : Shape} {off size : Fin s.rank → ℕ} {inb} (a : Fin s.rank) {b p : ℕ} (hb : 0 < b)
    (ha : off a = b * p) (hs : size a = b) (ho : ∀ a', a' ≠ a → off a' = 0 ∧ size a' = s.size a') :
    (Rect.unit off size inb).set = cut a b p := by
  ext i
  rw [Rect.mem_set_unit, mem_cut]
  constructor
  · intro h
    have := h a
    rw [ha, hs] at this
    rw [Nat.div_eq_iff hb]
    constructor
    · rw [Nat.mul_comm]; exact this.1
    · have h2 := this.2
      rw [Nat.mul_comm p b]; omega
  · intro h a'
    by_cases e : a' = a
    · subst e
      rw [ha, hs, ← h]
      exact ⟨Nat.mul_div_le _ _, by have := Nat.lt_mul_div_succ (i a').val hb; rw [Nat.mul_add, Nat.mul_one] at this; exact this⟩
    · rw [(ho a' e).1, (ho a' e).2]
      exact ⟨Nat.zero_le _, by rw [Nat.zero_add]; exact (i a').isLt⟩

theorem cut_disjoint {s : Shape} (a : Fin s.rank) (b : ℕ) {p q : ℕ} (h : p ≠ q) : Disjoint (cut (s := s) a b p) (cut a b q) := by
  rw [Finset.disjoint_left]; intro i hi hj
  rw [mem_cut] at hi hj; exact h (hi.symm.trans hj)

/-! ## A write through a rectangle, element by element -/

section Writes
variable {Val : EltTy → Type}

/-- Written through a rectangle of a whole buffer, the element at offset `j` holds the payload at `j`. -/
theorem write_unit (b : Ref sig .tc) {off size : Fin b.ty.shape.rank → ℕ} {inb} (f : b.ty.Contents Val)
    (w : (Rect.unit off size inb).shape.Idx → Val b.ty.elt) (i : b.ty.shape.Idx) (j : (Rect.unit off size inb).shape.Idx)
    (h : ∀ a, (i a).val = off a + (j a).val) :
    ((View.whole b).slice (Rect.unit off size inb)).write Val f w Finset.univ i = w j := by
  have e : i = ((View.whole b).slice (Rect.unit off size inb)).emb j :=
    funext fun a => Fin.ext (by rw [ValueKit.view_emb_slice_whole_unit_val]; exact h a)
  rw [e, View.write_emb_of_mem _ _ (Finset.mem_univ _)]; rfl

/-- Written through a rectangle read at another shape, likewise through the matching of the two shapes. -/
theorem write_unit_reshape (b : Ref sig .tc) {off size : Fin b.ty.shape.rank → ℕ} {inb} (s' : Shape)
    (hn : s'.numel = (Rect.unit off size inb).shape.numel) (f : b.ty.Contents Val)
    (w : s'.Idx → Val b.ty.elt) (i : b.ty.shape.Idx) (j : s'.Idx)
    (h : ∀ a, (i a).val = off a + (Shape.reshapeEquiv hn j a).val) :
    (((View.whole b).slice (Rect.unit off size inb)).reshape s' hn).write Val f w Finset.univ i = w j := by
  have e : i = (((View.whole b).slice (Rect.unit off size inb)).reshape s' hn).emb j :=
    funext fun a => Fin.ext (by
      refine (h a).trans ?_
      exact (ValueKit.view_emb_slice_whole_unit_val b off size inb (Shape.reshapeEquiv hn j) a).symm)
  rw [e, View.write_emb_of_mem _ _ (Finset.mem_univ _)]; rfl

/-- Outside the rectangle a write changes nothing. -/
theorem write_unit_off (b : Ref sig .tc) {off size : Fin b.ty.shape.rank → ℕ} {inb} (f : b.ty.Contents Val)
    (w : (Rect.unit off size inb).shape.Idx → Val b.ty.elt) (i : b.ty.shape.Idx) (h : i ∉ (Rect.unit off size inb).set) :
    ((View.whole b).slice (Rect.unit off size inb)).write Val f w Finset.univ i = f i :=
  View.write_of_not_mem _ _ _ (by rw [View.setOn_univ, View.set_slice_whole]; exact h)

/-- A read through a rectangle of a whole buffer, at offset `j`. -/
theorem read_unit (b : Ref sig .tc) {off size : Fin b.ty.shape.rank → ℕ} {inb} (f : b.ty.Contents Val)
    (i : b.ty.shape.Idx) (j : (Rect.unit off size inb).shape.Idx) (h : ∀ a, (i a).val = off a + (j a).val) :
    ((View.whole b).slice (Rect.unit off size inb)).read Val f j = f i := by
  have e : i = ((View.whole b).slice (Rect.unit off size inb)).emb j :=
    funext fun a => Fin.ext (by rw [ValueKit.view_emb_slice_whole_unit_val]; exact h a)
  rw [e]; rfl

end Writes

/-! ## Contents -/

section Contents

variable (x : Dev nD → Vec F S4096x512 .f32) (w : Vec F S4096x8192 .f32)

/-- Device `p`'s block of `x`, cast. -/
def XF (p : Dev nD) : Vec F S4096x512 .fp8e4m3 := k0_pay1 (x p)

/-- The gathered rows of device `c`: column block `p` is device `p`'s row block `c`. -/
def XG (c : Dev nD) : Vec F S512x4096 .fp8e4m3 := fun i =>
  XF x ⟨(i 1).val / 512, by have : (i 1).val < 4096 := (i 1).isLt; show _ < 8; omega⟩
    (ix2 ⟨512 * c.val + (i 0).val, by have : (i 0).val < 512 := (i 0).isLt; have : c.val < 8 := c.isLt; omega⟩
      ⟨(i 1).val % 512, Nat.mod_lt _ (by decide)⟩)

/-- Column tile `t` of the weights, -/
def WV (t : ℕ) : Vec F S1x4096x512 .f32 := fun j =>
  w (ix2 ⟨(j 1).val, (j 1).isLt⟩ ⟨(512 * t + (j 2).val) % 8192, Nat.mod_lt _ (by decide)⟩)

/-- cast, -/
def W8 (t : ℕ) : Vec F S1x4096x512 .fp8e4m3 := k0_pay13 (WV w t)

/-- and spread over the slots of the staging pair. -/
def WB (t : ℕ) : Vec F S2x4096x512 .f32 := fun i => WV w t (ix3 ⟨0, Nat.one_pos⟩ (i 1) (i 2))

/-- The cast weights' eight slots after `n` tiles: the last tile written into each slot, before that `f`. -/
def WG (n : ℕ) (f : Vec F S8x4096x512 .fp8e4m3) : Vec F S8x4096x512 .fp8e4m3 := fun i =>
  if (i 0).val + 8 < n then W8 w ((i 0).val + 8) (ix3 ⟨0, Nat.one_pos⟩ (i 1) (i 2))
  else if (i 0).val < n then W8 w (i 0).val (ix3 ⟨0, Nat.one_pos⟩ (i 1) (i 2)) else f i

variable (sx sw : F .f32) (g : Vec F S512x4096 .fp8e4m3)

/-- Output tile `t`: the gathered rows times tile `t`, scaled and gated, -/
def OV (t : ℕ) : Vec F S1x512x512 .f32 := k0_pay12 sx sw g (W8 w t)

/-- spread over the slots of the output pair, -/
def OB (t : ℕ) : Vec F S2x512x512 .f32 := fun i => OV w sx sw g t (ix3 ⟨0, Nat.one_pos⟩ (i 1) (i 2))

/-- and the whole result. -/
def OUT : Vec F S512x8192 .f32 := fun i =>
  OV w sx sw g ((i 1).val / 512) (ix3 ⟨0, Nat.one_pos⟩ ⟨(i 0).val, (i 0).isLt⟩ ⟨(i 1).val % 512, Nat.mod_lt _ (by decide)⟩)

end Contents

end Cert.A2A

end
-- ==== Proof.Sched.lean ====
/-
# The all-to-all product: the cross-device protocol

Each device has fifteen shared cells, every one with a single round.

* The barrier cell of `p` has seven duties of one unit. Duty `d` is paid by device `p - (d + 1)`, with its
  signal number `d + 1`; the payload is the payer's gathered column block `p`, at any contents: from then on
  only `p` writes there.
* The receive cell `s` of `p` has one duty, paid by the send number `s` of device `p - (s + 1)`; the payload is
  `p`'s gathered column block of that device, holding what that device's row block `p` holds.
* The send cell `s` of `c` has one duty, paid by the same send; the payload is the row block that was read.

A device waits at its barrier owing only receive cells of others, and owes nothing at every later wait; so the
barrier cells lie below the receive cells, and all other cells lie below both.
-/
module

public import proofs.«01_k».proof.Proof.Base

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra: the staging copies, the shared cells, the device's own transfers -/

abbrev UX : Type := URounds (GSem nD τ sig) ℕ
abbrev UU : Type := UR sig nD τ × (UX × Counters)

local notation "𝕄" => MT nD τ sig Unit (Elt F) ℕ UU ℕ

abbrev EP : Emb (UR sig nD τ) (MT nD τ sig Unit (Elt F) ℕ UU ℕ) := embL
def ER : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
abbrev EC : UEmb Counters (MT nD τ sig Unit (Elt F) ℕ UU ℕ) := countersEmb

instance ER_landsIn : (ER : Emb UX 𝕄).LandsIn (upEmb : UEmb _ 𝕄) := by unfold ER; infer_instance
instance EC_landsIn : (EC : UEmb Counters 𝕄).LandsIn (upEmb : UEmb _ 𝕄) := by infer_instance

/-- Part `S` of device `c`'s buffer `b`, holding `f`. -/
abbrev pt (c : Dev nD) (b : Ref sig .tc) (S : Finset b.ty.shape.Idx) (f : b.ty.Contents (Elt F)) : sProp 𝕄 :=
  iprop(((c : Thread nD τ).loc b) ↦[S]{fullShare} f)

/-! ## The schedule -/

/-- The credit of one block of a send. -/
def N : ℕ := (cc0_scratch1 : Ref sig .tc).dmaCredit S512x512 .fp8e4m3
theorem N_pos : 0 < N :=
  View.dmaCredit_pos ((Memref.whole cc0_scratch1).slice (Rect.unit (s := S512x4096) ![0, 0] S512x512.size (by decide)) (fun _ => rfl)).view (by decide)

section Schedule
variable (x : Dev nD → Vec F S4096x512 .f32)

def barPay (p : Dev nD) (d : ℕ) : sProp 𝕄 := iprop(∃ f, pt (rot (7 - d) p) cc0_scratch1 (cut (s := S512x4096) 1 512 p.val) f)
def recvPay (p : Dev nD) (s : ℕ) : sProp 𝕄 := pt p cc0_scratch1 (cut (s := S512x4096) 1 512 (rot (7 - s) p).val) (XG x p)
def sendPay (c : Dev nD) (s : ℕ) : sProp 𝕄 := pt c cc0_scratch0 (cut (s := S4096x512) 0 512 (rot (s + 1) c).val) (XF x c)

def dutiesOf : SemLoc sig → Finset ℕ
  | .reg _ => Finset.range 7
  | .dma q => if 7 ≤ q.val then {0} else ∅
def amountOf : SemLoc sig → ℕ
  | .reg _ => 1
  | .dma _ => N
def payOf (p : Dev nD) (d : ℕ) : SemLoc sig → sProp 𝕄
  | .reg _ => barPay p d
  | .dma q => if 14 ≤ q.val then recvPay x p (q.val - 14) else sendPay x p (q.val - 7)

def ringRd : Rounds.Schedule (GSem nD τ sig) ℕ 𝕄 where
  duties g r := if r = 0 ∧ g.1.2 = .tc then dutiesOf g.2 else ∅
  unitless _ := False
  amount g _ _ := amountOf g.2
  payload g _ d := payOf x g.1.1 d g.2
  amount_pos g _ _ _ := by
    rcases g.2 with q | q
    · exact Nat.one_pos
    · exact N_pos

instance ringRd_payload_storable (g : GSem nD τ sig) (r d : ℕ) :
    BI.Storable (upEmb : UEmb _ 𝕄) ((ringRd (F := F) x).payload g r d) := by
  show BI.Storable upEmb (payOf x g.1.1 d g.2)
  rcases g.2 with q | q
  · show BI.Storable upEmb (barPay _ _); unfold barPay; infer_instance
  · show BI.Storable upEmb (if 14 ≤ q.val then recvPay x _ _ else sendPay x _ _)
    unfold recvPay sendPay
    split <;> infer_instance

variable (c : Dev nD) {s : ℕ} (hs : s < 7)
include hs

omit hs in
theorem duties_zero (sm : SemLoc sig) : (ringRd (F := F) x).duties ((c : Thread nD τ), sm) 0 = dutiesOf sm := by
  dsimp only [ringRd]; exact if_pos ⟨rfl, rfl⟩
omit hs in
theorem duties_bar : (ringRd (F := F) x).duties (barCell c) 0 = Finset.range 7 := duties_zero x c _
theorem duties_send : (ringRd (F := F) x).duties (sendCell c s) 0 = {0} := by
  rw [duties_zero]; dsimp only [dutiesOf]; rw [dq_val (by omega)]; exact if_pos (by omega)
theorem duties_recv : (ringRd (F := F) x).duties (recvCell c s) 0 = {0} := by
  rw [duties_zero]; dsimp only [dutiesOf]; rw [dq_val (by omega)]; exact if_pos (by omega)
omit hs in
theorem duties_later (g : GSem nD τ sig) : ∀ r, 1 ≤ r → (ringRd (F := F) x).duties g r = ∅ :=
  fun r hr => if_neg fun h => by omega

omit hs in
theorem expect_bar : (ringRd (F := F) x).expect (barCell c) 0 = 7 := by
  unfold Schedule.expect Schedule.amountOf; rw [duties_bar]; rfl
theorem expect_send : (ringRd (F := F) x).expect (sendCell c s) 0 = N := by
  unfold Schedule.expect Schedule.amountOf; rw [duties_send x c hs, Finset.sum_singleton]; rfl
theorem expect_recv : (ringRd (F := F) x).expect (recvCell c s) 0 = N := by
  unfold Schedule.expect Schedule.amountOf; rw [duties_recv x c hs, Finset.sum_singleton]; rfl

omit hs in
theorem payload_bar (d : ℕ) : (ringRd (F := F) x).payload (barCell c) 0 d = barPay c d := rfl
theorem payload_send (d : ℕ) : (ringRd (F := F) x).payload (sendCell c s) 0 d = sendPay x c s := by
  show (if 14 ≤ (dq (7 + s)).val then recvPay x c _ else sendPay x c ((dq (7 + s)).val - 7)) = _
  rw [dq_val (by omega), if_neg (by omega), Nat.add_sub_cancel_left]
theorem payload_recv (d : ℕ) : (ringRd (F := F) x).payload (recvCell c s) 0 d = recvPay x c s := by
  show (if 14 ≤ (dq (14 + s)).val then recvPay x c ((dq (14 + s)).val - 14) else sendPay x c _) = _
  rw [dq_val (by omega), if_pos (by omega), Nat.add_sub_cancel_left]

omit hs in
theorem rest_bar : bigSep ((ringRd (F := F) x).duties (barCell c) 0 \ ∅) (fun d => (ringRd (F := F) x).payload (barCell c) 0 d)
    = bigSep (Finset.range 7) (barPay c) := by
  rw [Finset.sdiff_empty, duties_bar]; rfl
theorem rest_send : bigSep ((ringRd (F := F) x).duties (sendCell c s) 0 \ ∅) (fun d => (ringRd (F := F) x).payload (sendCell c s) 0 d)
    = sendPay x c s := by
  rw [Finset.sdiff_empty, duties_send x c hs, bigSep_singleton, payload_send x c hs]
theorem rest_recv : bigSep ((ringRd (F := F) x).duties (recvCell c s) 0 \ ∅) (fun d => (ringRd (F := F) x).payload (recvCell c s) 0 d)
    = recvPay x c s := by
  rw [Finset.sdiff_empty, duties_recv x c hs, bigSep_singleton, payload_recv x c hs]

end Schedule

/-! ## What a device owes; the levels -/

/-- The credit device `c` owes to receive cells, sends below `j` made; -/
def owedR (c : Dev nD) (j : ℕ) : CellTallies nD τ sig Unit := ∑ s ∈ Finset.Ico j 7, tallyAt (recvCell (rot (s + 1) c) s) () N
/-- with the barrier units, signals below `j` given. -/
def owedB (c : Dev nD) (j : ℕ) : CellTallies nD τ sig Unit :=
  owedR c 0 + ∑ s ∈ Finset.Ico j 7, tallyAt (barCell (rot (s + 1) c)) () 1

theorem sum_Ico_bot {j : ℕ} (h : j < 7) (f : ℕ → CellTallies nD τ sig Unit) :
    ∑ s ∈ Finset.Ico j 7, f s = f j + ∑ s ∈ Finset.Ico (j + 1) 7, f s := by
  rw [show Finset.Ico j 7 = insert j (Finset.Ico (j + 1) 7) by ext y; simp only [Finset.mem_Ico, Finset.mem_insert]; omega,
    Finset.sum_insert (by rw [Finset.mem_Ico]; omega)]

theorem owedR_succ (c : Dev nD) {j : ℕ} (h : j < 7) : owedR c j = owedR c (j + 1) + tallyAt (recvCell (rot (j + 1) c) j) () N := by
  unfold owedR; rw [sum_Ico_bot h, add_comm]
theorem owedB_succ (c : Dev nD) {j : ℕ} (h : j < 7) : owedB c j = owedB c (j + 1) + tallyAt (barCell (rot (j + 1) c)) () 1 := by
  unfold owedB; rw [sum_Ico_bot h, add_comm (tallyAt _ _ _), add_assoc]
theorem owedR_end (c : Dev nD) : owedR c 7 = 0 := by unfold owedR; rw [Finset.Ico_self, Finset.sum_empty]
theorem owedB_end (c : Dev nD) : owedB c 7 = owedR c 0 := by unfold owedB; rw [Finset.Ico_self, Finset.sum_empty, add_zero]

def L (g : GSem nD τ sig) : Finset Unit := if g.1.2 = .tc then {()} else ∅
def lvOf : SemLoc sig → ℕ
  | .reg _ => 1
  | .dma q => if 14 ≤ q.val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) {s : ℕ} (hs : s < 7) (u : Unit) : lv (recvCell c s) u = 2 := by
  show (if 14 ≤ (dq (14 + s)).val then 2 else 0) = 2
  rw [dq_val (by omega), if_pos (by omega)]

theorem sum_pos {I : Finset ℕ} {f : ℕ → CellTallies nD τ sig Unit} {g : GSem nD τ sig} {u : Unit}
    (h : 0 < (∑ s ∈ I, f s) g u) : ∃ s ∈ I, 0 < f s g u := by
  rw [Finset.sum_apply, Finsupp.finset_sum_apply] at h
  by_contra hn
  push Not at hn
  exact absurd (Finset.sum_eq_zero fun s hs => Nat.le_zero.mp (hn s hs)) h.ne'

theorem owedR_pos {c : Dev nD} {j : ℕ} {g : GSem nD τ sig} {u : Unit} (h : 0 < owedR c j g u) :
    ∃ s < 7, g = recvCell (rot (s + 1) c) s := by
  obtain ⟨s, hs, hp⟩ := sum_pos h
  rw [tallyAt_apply] at hp
  refine ⟨s, (Finset.mem_Ico.mp hs).2, ?_⟩
  by_contra hn
  rw [if_neg (fun e => hn e.1)] at hp
  exact Nat.lt_irrefl 0 hp

theorem owedB_pos {c : Dev nD} {j : ℕ} {g : GSem nD τ sig} {u : Unit} (h : 0 < owedB c j g u) :
    (∃ s < 7, g = recvCell (rot (s + 1) c) s) ∨ ∃ s < 7, g = barCell (rot (s + 1) c) := by
  unfold owedB at h
  rw [Pi.add_apply, Finsupp.add_apply] at h
  rcases Nat.eq_zero_or_pos (owedR c 0 g u) with e | e
  · rw [e, Nat.zero_add] at h
    obtain ⟨s, hs, hp⟩ := sum_pos h
    rw [tallyAt_apply] at hp
    refine .inr ⟨s, (Finset.mem_Ico.mp hs).2, ?_⟩
    by_contra hn
    rw [if_neg (fun e => hn e.1)] at hp
    exact Nat.lt_irrefl 0 hp
  · exact .inl (owedR_pos e)

omit [FloatOps F] in
theorem mayWait_stage (c : Dev nD) (q : DmaSem sig) (hq : q.val < 14) (O : CellTallies nD τ sig Unit) (hO : O = owedB c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedB_pos hg with ⟨s, -, rfl⟩ | ⟨s, -, rfl⟩ <;> exact Finset.mem_singleton_self _)
      (fun p hp => by rw [Finset.mem_singleton.mp hp]; exact le_of_eq (if_neg (by omega)))
      (fun g u hg => by
        rcases owedB_pos hg with ⟨s, hs, rfl⟩ | ⟨s, hs, rfl⟩
        · rw [lv_recv _ hs]; decide
        · exact Nat.one_pos)
  · rw [MayWait_zero]; iintro -; iempintro

omit [FloatOps F] in
theorem mayWait_bar (c : Dev nD) : (levAts L lv : sProp 𝕄) ⊢ MayWait (c : Thread nD τ) (.reg barS) () (owedR c 0) :=
  MayOwe.of_cut (L := L) (lev := lv) 1 (fun p hp => by rw [Finset.mem_singleton.mp hp, L_tc]; exact Finset.mem_singleton_self _)
    (fun g u hg => by obtain ⟨s, -, rfl⟩ := owedR_pos hg; exact Finset.mem_singleton_self _)
    (fun p hp => by rw [Finset.mem_singleton.mp hp]; exact le_rfl)
    (fun g u hg => by obtain ⟨s, hs, rfl⟩ := owedR_pos hg; rw [lv_recv _ hs]; decide)

/-! ## The records every device holds -/

/-- A device's shared cells: the barrier, the seven send cells, the seven receive cells. -/
def csem (k : Fin 15) : SemLoc sig := if k.val = 0 then .reg barS else .dma (dq (6 + k.val))
abbrev kcell (ck : Dev nD × Fin 15) : GSem nD τ sig := ((ck.1 : Thread nD τ), csem ck.2)

section Records
variable (x : Dev nD → Vec F S4096x512 .f32) (K : Dev nD × Fin 15 → ℕ)

def recs : sProp 𝕄 :=
  iprop((bigSep Finset.univ fun ck : Dev nD × Fin 15 => cellInv ER (ringRd x) (K ck) (kcell ck))
    ∗ bigSep Finset.univ fun ck : Dev nD × Fin 15 => reached ER (kcell ck) 0)

instance recs_persistent : BI.Persistent (recs (F := F) x K) := by unfold recs; infer_instance

theorem recs_at (ck : Dev nD × Fin 15) :
    recs (F := F) x K ⊢ iprop(cellInv ER (ringRd x) (K ck) (kcell ck) ∗ reached ER (kcell ck) 0) := by
  unfold recs
  exact Idealize.SL.BI.sep_mono (bigSep_elim (Finset.mem_univ ck)) (bigSep_elim (Finset.mem_univ ck))

theorem recs_bar (c : Dev nD) :
    recs (F := F) x K ⊢ iprop(cellInv ER (ringRd x) (K (c, 0)) (barCell c) ∗ reached ER (barCell c) 0) := recs_at x K (c, 0)

theorem recs_send (c : Dev nD) {s : ℕ} (hs : s < 7) :
    recs (F := F) x K ⊢ iprop(cellInv ER (ringRd x) (K (c, ⟨s + 1, by omega⟩)) (sendCell c s) ∗ reached ER (sendCell c s) 0) := by
  have e : kcell (c, (⟨s + 1, by omega⟩ : Fin 15)) = sendCell c s := by
    unfold kcell csem; rw [if_neg (Nat.succ_ne_zero s), show 6 + (s + 1) = 7 + s by omega]
  have h := recs_at x K (c, (⟨s + 1, by omega⟩ : Fin 15))
  rwa [e] at h

theorem recs_recv (c : Dev nD) {s : ℕ} (hs : s < 7) :
    recs (F := F) x K ⊢ iprop(cellInv ER (ringRd x) (K (c, ⟨s + 8, by omega⟩)) (recvCell c s) ∗ reached ER (recvCell c s) 0) := by
  have e : kcell (c, (⟨s + 8, by omega⟩ : Fin 15)) = recvCell c s := by
    unfold kcell csem; rw [if_neg (show s + 8 ≠ 0 by omega), show 6 + (s + 8) = 14 + s by omega]
  have h := recs_at x K (c, (⟨s + 8, by omega⟩ : Fin 15))
  rwa [e] at h

end Records

end Cert.A2A

end
-- ==== Proof.Steps.lean ====
/-
# The all-to-all product: one step of each cross-device exchange

The state before exchange number `j` of each kind (signal, send, wait for a receive, wait for a send) as one
assertion, and the rule that takes it from `j` to `j + 1` at the program's operation number `j`.
-/
module

public import proofs.«01_k».proof.Proof.Sched

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open ValueIdx (ix2 ix3)
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The device owes `O`, whatever it has waited for. -/
def ows (c : Dev nD) (O : CellTallies nD τ sig Unit) : sProp 𝕄 := iprop(∃ W, owes (c : Thread nD τ) O W)

variable (x : Dev nD → Vec F S4096x512 .f32) (K : Dev nD × Fin 15 → ℕ) (c : Dev nD)
variable {α : Type} {k : PUnit → Prog (TpuEff nD τ sig (Elt F) Λ₀ .tc) α}

/-! ## The signals -/

/-- What signal `s` hands over: the right to pay, and the column block it gives away. -/
def sigGive (s : ℕ) : sProp 𝕄 :=
  iprop(dutyTok ER (barCell (rot (s + 1) c)) 0 s ∗ ∃ f, pt c cc0_scratch1 (cut (s := S512x4096) 1 512 (rot (s + 1) c).val) f)

def SigS (j : ℕ) : sProp 𝕄 := iprop(recs x K ∗ ows c (owedB c j) ∗ bigSep (Finset.Ico j 7) (sigGive (F := F) c))

theorem sig_step {Q : α → sProp 𝕄} {j : ℕ} (hj : j < 7) {n : Dev nD} (hn : n = rot (j + 1) c) {a : ℕ} (ha : a = 1) :
    SigS x K c j ⊢ iprop((SigS x K c (j + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS a) k) Q) := by
  subst hn; subst ha
  unfold SigS ows
  rw [bigSep_Ico_succ_bot hj, owedB_succ c hj, sigGive]
  iintro ⟨#HR, ⟨%W, HO⟩, ⟨Ht, Hx⟩, Hrest⟩ Hk
  ihave HC := (recs_bar x K (rot (j + 1) c)) $$ HR
  icases HC with ⟨#HI, #Hr⟩
  iapply (Rounds.wp_signal 𝒱₀ ER (ringRd x) (c : Thread nD τ) none (dst := (rot (j + 1) c : Thread nD τ)) (κ := K (rot (j + 1) c, 0))
      (d := j) (by rw [duties_bar]; exact Finset.mem_range.mpr hj) rfl () (owedB c (j + 1)) rfl) $$ [HO Ht Hx]
  · isplitr; · iexact HI
    isplitl [HO]; · iexact HO
    isplitl [Ht]; · iexact Ht
    isplitl [Hx]
    · rw [payload_bar]; unfold barPay; rw [rot_back hj]; iexact Hx
    · iexact Hr
  iintro HO
  iapply Hk
  isplitr; · iexact HR
  isplitl [HO]; · iexists W; iexact HO
  iexact Hrest

/-- The wait at the barrier: every peer's column block has come, and the cell is closed. -/
theorem bar_wait {Q : α → sProp 𝕄} {a : ℕ} (ha : a = 7) :
    iprop(SigS x K c 7 ∗ atPos ER (barCell c) 0 ∅ 0 ∗ cred (tallyAt (barCell c) () 7) ∗ levAts L lv)
      ⊢ iprop((iprop(recs x K ∗ ows c (owedR c 0) ∗ semVal (barCell c) 0 ∗ bigSep (Finset.range 7) (barPay (F := F) c)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS a) k) Q) := by
  subst ha
  unfold SigS ows
  rw [owedB_end]
  iintro ⟨⟨#HR, ⟨%W, HO⟩, -⟩, Hat, Hc, #Hlev⟩ Hk
  ihave HC := (recs_bar x K c) $$ HR
  icases HC with ⟨#HI, -⟩
  iapply (Rounds.wp_wait_rest_token 𝒱₀ ER (ringRd x) (c : Thread nD τ) none (κ := K (c, 0))
      (wpE_semWait_eq 𝒱₀ (c : Thread nD τ) none Set.univ) (Set.mem_univ _) () (O := owedR c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar x c)) $$ Hpay
  imod (Rounds.cell_close ER (ringRd x) (Set.mem_univ (K (c, 0))) (fun h => h) (R := 0 + 1) (duties_later x (barCell c))) $$ [Hat] with Hz
  · isplitr; · iexact HI
    iexact Hat
  iapply Hk
  isplitr; · iexact HR
  isplitl [HO]; · iexists _; iexact HO
  isplitl [Hz] <;> iassumption

/-! ## The sends -/

/-- What send `s` needs: both rights to pay, the row block it reads, the block of the peer's it writes. -/
def sendGive (s : ℕ) : sProp 𝕄 :=
  iprop(dutyTok ER (sendCell c s) 0 0 ∗ dutyTok ER (recvCell (rot (s + 1) c) s) 0 0
    ∗ pt c cc0_scratch0 (cut (s := S4096x512) 0 512 (rot (s + 1) c).val) (XF x c)
    ∗ ∃ f, pt (rot (s + 1) c) cc0_scratch1 (cut (s := S512x4096) 1 512 c.val) f)

def SendS (j : ℕ) : sProp 𝕄 :=
  iprop(recs x K ∗ ows c (owedR c j) ∗ bigSep (Finset.Ico j 7) (sendGive x c)
    ∗ bigSep (Finset.range j) fun s => cred (tallyAt (sendCell c s) () N))

omit [FloatOps F] in
theorem xf_set {o : Fin 2 → ℕ} {inb} {p : ℕ} (h : o = ![512 * p, 0]) :
    (Rect.unit (s := S4096x512) o S512x512.size inb).set = cut 0 512 p := by
  subst h
  exact unit_set_eq_cut 0 (by decide) rfl rfl fun a' h => by fin_cases a' <;> [exact absurd rfl h; exact ⟨rfl, rfl⟩]

omit [FloatOps F] in
theorem xg_set {o : Fin 2 → ℕ} {inb} {p : ℕ} (h : o = ![0, 512 * p]) :
    (Rect.unit (s := S512x4096) o S512x512.size inb).set = cut 1 512 p := by
  subst h
  exact unit_set_eq_cut 1 (by decide) rfl rfl fun a' h => by fin_cases a' <;> [exact ⟨rfl, rfl⟩; exact absurd rfl h]

/-- A row block of the cast `x`, as the send reads it. -/
abbrev xfV (o : Fin 2 → ℕ) (inb : ∀ a, o a + S512x512.size a ≤ S4096x512.size a) : Memref sig .tc .vmem S512x512 .fp8e4m3 :=
  (Memref.whole cc0_scratch0).slice (Rect.unit (s := S4096x512) o S512x512.size inb) (fun _ => rfl)
/-- A column block of the gathered rows, as the send writes it. -/
abbrev xgV (o : Fin 2 → ℕ) (inb : ∀ a, o a + S512x512.size a ≤ S512x4096.size a) : Memref sig .tc .vmem S512x512 .fp8e4m3 :=
  (Memref.whole cc0_scratch1).slice (Rect.unit (s := S512x4096) o S512x512.size inb) (fun _ => rfl)

/-- A block of a device's cast `x` lands where the receiver's gathered rows have it. -/
theorem landed {p : Dev nD} {o o' : Fin 2 → ℕ} {inb inb'} (ho : o = ![512 * p.val, 0]) (ho' : o' = ![0, 512 * c.val])
    (f : Vec F S512x4096 .fp8e4m3) (i : S512x4096.Idx) (hi : i ∈ cut (s := S512x4096) 1 512 c.val) :
    (xgV o' inb').view.write (Elt F) f ((xfV o inb).view.read (Elt F) (XF x c)) Finset.univ i = XG x p i := by
  subst ho; subst ho'
  have hc : (i 1).val / 512 = c.val := mem_cut.mp hi
  have h1 : (i 1).val < 4096 := (i 1).isLt
  have h0 : (i 0).val < 512 := (i 0).isLt
  have hp : p.val < 8 := p.isLt
  refine (write_unit cc0_scratch1 (off := ![0, 512 * c.val]) (size := S512x512.size) f _ i
    (ix2 ⟨(i 0).val, h0⟩ ⟨(i 1).val % 512, Nat.mod_lt _ (by decide)⟩ : S512x512.Idx) ?_).trans ?_
  · intro a
    fin_cases a
    · exact (Nat.zero_add _).symm
    · show (i 1).val = 512 * c.val + (i 1).val % 512
      omega
  refine (read_unit cc0_scratch0 (off := ![512 * p.val, 0]) (size := S512x512.size) (XF x c)
    (ix2 ⟨512 * p.val + (i 0).val, by omega⟩ ⟨(i 1).val % 512, Nat.mod_lt _ (by decide)⟩ : S4096x512.Idx) _ ?_).trans ?_
  · intro a
    fin_cases a
    · rfl
    · exact (Nat.zero_add _).symm
  · show _ = XF x _ _
    congr 1
    exact Fin.ext hc.symm

theorem send_step {Q : α → sProp 𝕄} {j : ℕ} (hj : j < 7) {n : Dev nD} (hn : n = rot (j + 1) c)
    {o o' : Fin 2 → ℕ} {inb inb'} (ho : o = ![512 * (rot (j + 1) c).val, 0]) (ho' : o' = ![0, 512 * c.val])
    {sS sR : DmaSem sig} (hS : sS = dq (7 + j)) (hR : sR = dq (14 + j))
    {hsc : ((xgV o' inb' : Memref sig (Dev.tc n : Thread nD τ).2.kind .vmem S512x512 .fp8e4m3)).view.ref.isScScratch = false}
    {hsrc : (xfV o inb).view.WordExact} {hdst : (xgV o' inb').view.WordExact}
    {hsem : DmaTarget.Typed .vmem (.dma sR) (.remote (Dev.tc n : Thread nD τ) (xgV o' inb') (.dma sS) hsc)} :
    SendS x K c j ⊢ iprop((SendS x K c (j + 1) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (xfV o inb) (.remote (Dev.tc n : Thread nD τ) (xgV o' inb') (.dma sS) hsc) (.dma sR) hsrc hdst hsem) k) Q) := by
  subst hn; subst hS; subst hR
  have hfs : (xfV o inb).view.set = cut (s := S4096x512) 0 512 (rot (j + 1) c).val := by
    exact (View.set_slice_whole cc0_scratch0 _).trans (xf_set ho)
  have hgs : (xgV o' inb').view.set = cut (s := S512x4096) 1 512 c.val := by
    exact (View.set_slice_whole cc0_scratch1 _).trans (xg_set ho')
  unfold SendS ows
  rw [bigSep_Ico_succ_bot hj, owedR_succ c hj, bigSep_range_succ]
  unfold sendGive
  iintro ⟨#HR, ⟨%W, HO⟩, ⟨⟨HtS, HtR, Hx, %fn, Hg⟩, Hrest⟩, Hdone⟩ Hk
  ihave HCS := (recs_send x K c hj) $$ HR
  icases HCS with ⟨#HIS, #HrS⟩
  ihave HCR := (recs_recv x K (rot (j + 1) c) hj) $$ HR
  icases HCR with ⟨#HIR, #HrR⟩
  have hs := Rounds.wp_send_pointsTo (Q := Q) (k := k) (defs := defs₀ (F := F)) (Γ := []) (Es := Set.univ) 𝒱₀ ER (ringRd x) (c : Thread nD τ) none (c' := (rot (j + 1) c : Thread nD τ))
    (src := xfV o inb) (dst := xgV o' inb') (sem := .dma (dq (14 + j))) (sS := .dma (dq (7 + j))) (hsc := hsc) (hsrc := hsrc) (hdst := hdst) (hsem := hsem)
    (κ₁ := K (c, ⟨j + 1, by omega⟩)) (κ₂ := K (rot (j + 1) c, ⟨j + 8, by omega⟩))
    (r₁ := 0) (r₂ := 0) (d₁ := 0) (d₂ := 0) (q := fullShare) (fs := XF x c) (fd := fn)
    (by rw [duties_send x c hj]; exact Finset.mem_singleton_self _) (by rw [duties_recv x _ hj]; exact Finset.mem_singleton_self _)
    () () N rfl rfl rfl (owedR c (j + 1)) rfl (W := W)
    (by rw [payload_send x c hj, hfs]; exact BI.Entails.refl _)
    (by rw [payload_recv x _ hj, hgs]; unfold recvPay; rw [rot_back hj]
        exact Entails.of_eq (pointsTo_congr fun i hi => landed x c ho ho' fn i hi))
  rw [hfs, hgs] at hs
  iapply hs $$ [HtS HtR Hx Hg HO]
  · isplitr; · iexact HIS
    isplitr; · iexact HIR
    isplitl [Hx]; · iexact Hx
    isplitl [Hg]; · iexact Hg
    isplitl [HO]; · iexact HO
    isplitl [HtS]; · iexact HtS
    isplitr; · iexact HrS
    isplitl [HtR]; · iexact HtR
    iexact HrR
  iintro ⟨HcS, HO⟩
  iapply Hk
  isplitr; · iexact HR
  isplitl [HO]; · iexists W; iexact HO
  isplitl [Hrest]; · iexact Hrest
  isplitl [HcS] <;> iassumption

/-! ## The waits -/

def RecvS (j : ℕ) : sProp 𝕄 :=
  iprop(recs x K ∗ ows c 0 ∗ (bigSep (Finset.Ico j 7) fun s => iprop(atPos ER (recvCell c s) 0 ∅ 0 ∗ cred (tallyAt (recvCell c s) () N)))
    ∗ bigSep (Finset.range j) fun s => iprop(semVal (recvCell c s) 0 ∗ recvPay x c s))

theorem recv_step {Q : α → sProp 𝕄} {j : ℕ} (hj : j < 7) {sR : DmaSem sig} (hR : sR = dq (14 + j))
    {o o' : Fin 2 → ℕ} {inb inb'} {hsrc : (xfV o inb).view.WordExact} {hdst : (xgV o' inb').view.WordExact} :
    RecvS x K c j ⊢ iprop((RecvS x K c (j + 1) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sR (xfV o inb) (xgV o' inb') hsrc hdst) k) Q) := by
  subst hR
  unfold RecvS ows
  rw [bigSep_Ico_succ_bot hj, bigSep_range_succ]
  iintro ⟨#HR, ⟨%W, HO⟩, ⟨⟨Hat, Hc⟩, Hrest⟩, Hdone⟩ Hk
  ihave HC := (recs_recv x K c hj) $$ HR
  icases HC with ⟨#HI, -⟩
  iapply (Rounds.wp_wait_rest_token 𝒱₀ ER (ringRd x) (c : Thread nD τ) none (κ := K (c, ⟨j + 8, by omega⟩))
      (wpE_waitDma2_eq 𝒱₀ (c : Thread nD τ) none Set.univ) (Set.mem_univ _) () (O := 0) (W := W) (R := 0) (m := 0) (T := ∅)
      (by rw [expect_recv x c hj, Nat.zero_add]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv x c hj)) $$ Hpay
  imod (Rounds.cell_close ER (ringRd x) (Set.mem_univ (K (c, ⟨j + 8, by omega⟩))) (fun h => h) (R := 0 + 1) (duties_later x (recvCell c j))) $$ [Hat] with Hz
  · isplitr; · iexact HI
    iexact Hat
  iapply Hk
  isplitr; · iexact HR
  isplitl [HO]; · iexists _; iexact HO
  isplitl [Hrest]; · iexact Hrest
  isplitl [Hz Hp]
  · isplitl [Hz] <;> iassumption
  iexact Hdone

def DoneS (j : ℕ) : sProp 𝕄 :=
  iprop(recs x K ∗ ows c 0 ∗ (bigSep (Finset.Ico j 7) fun s => iprop(atPos ER (sendCell c s) 0 ∅ 0 ∗ cred (tallyAt (sendCell c s) () N)))
    ∗ bigSep (Finset.range j) fun s => iprop(semVal (sendCell c s) 0 ∗ sendPay x c s))

theorem done_step {Q : α → sProp 𝕄} {j : ℕ} (hj : j < 7) {sS : DmaSem sig} (hS : sS = dq (7 + j))
    {o o' : Fin 2 → ℕ} {inb inb'} {hdst : (xfV o inb).view.WordExact} {hsrc : (xgV o' inb').view.WordExact} :
    DoneS x K c j ⊢ iprop((DoneS x K c (j + 1) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sS (xgV o' inb') (xfV o inb) hsrc hdst) k) Q) := by
  subst hS
  unfold DoneS ows
  rw [bigSep_Ico_succ_bot hj, bigSep_range_succ]
  iintro ⟨#HR, ⟨%W, HO⟩, ⟨⟨Hat, Hc⟩, Hrest⟩, Hdone⟩ Hk
  ihave HC := (recs_send x K c hj) $$ HR
  icases HC with ⟨#HI, -⟩
  iapply (Rounds.wp_wait_rest_token 𝒱₀ ER (ringRd x) (c : Thread nD τ) none (κ := K (c, ⟨j + 1, by omega⟩))
      (wpE_waitDma2_eq 𝒱₀ (c : Thread nD τ) none Set.univ) (Set.mem_univ _) () (O := 0) (W := W) (R := 0) (m := 0) (T := ∅)
      (by rw [expect_send x c hj, Nat.zero_add]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send x c hj)) $$ Hpay
  imod (Rounds.cell_close ER (ringRd x) (Set.mem_univ (K (c, ⟨j + 1, by omega⟩))) (fun h => h) (R := 0 + 1) (duties_later x (sendCell c j))) $$ [Hat] with Hz
  · isplitr; · iexact HI
    iexact Hat
  iapply Hk
  isplitr; · iexact HR
  isplitl [HO]; · iexists _; iexact HO
  isplitl [Hrest]; · iexact Hrest
  isplitl [Hz Hp]
  · isplitl [Hz] <;> iassumption
  iexact Hdone

end Cert.A2A

end
-- ==== Proof.Tiles.lean ====
/-
# The all-to-all product: the weight ring, the cast slots and the output ring

Weight tile `t` comes in through slot `t % 2` of the staging pair and is cast into slot `t % 8`; output tile `t`
leaves through slot `t % 2` of the output pair. The state before tile `n` of each ring as one assertion, and the
rule of each operation that moves it.
-/
module

public import proofs.«01_k».proof.Proof.Steps

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx (ix2 ix3 reshapeEquiv_ix2_1ab eq_ix2 eq_ix3)
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

/-! ## The views -/

/-- A slot of the staging pair, a column tile of the weights, -/
abbrev wtV (o : Fin 3 → ℕ) (inb : ∀ a, o a + S1x4096x512.size a ≤ S2x4096x512.size a) : Memref sig .tc .vmem S4096x512 .f32 :=
  ((Memref.whole cc0_scratch2).slice (Rect.unit (s := S2x4096x512) o S1x4096x512.size inb) (fun _ => rfl)).squeeze
    S4096x512 squeezes_S1x4096x512_S4096x512
abbrev wV (o : Fin 2 → ℕ) (inb : ∀ a, o a + S4096x512.size a ≤ S4096x8192.size a) : Memref sig .tc .hbm S4096x512 .f32 :=
  (Memref.whole main_arg1).slice (Rect.unit (s := S4096x8192) o S4096x512.size inb) (fun _ => rfl)
/-- a slot of the output pair, a column tile of the result. -/
abbrev otV (o : Fin 3 → ℕ) (inb : ∀ a, o a + S1x512x512.size a ≤ S2x512x512.size a) : Memref sig .tc .vmem S512x512 .f32 :=
  ((Memref.whole cc0_scratch4).slice (Rect.unit (s := S2x512x512) o S1x512x512.size inb) (fun _ => rfl)).squeeze
    S512x512 squeezes_S1x512x512_S512x512
abbrev oV (o : Fin 2 → ℕ) (inb : ∀ a, o a + S512x512.size a ≤ S512x8192.size a) : Memref sig .tc .hbm S512x512 .f32 :=
  (Memref.whole main_v1).slice (Rect.unit (s := S512x8192) o S512x512.size inb) (fun _ => rfl)

section Sets
omit [FloatOps F]

theorem wt_rect {o : Fin 3 → ℕ} {inb} {p : ℕ} (h : o = ![p, 0, 0]) :
    (Rect.unit (s := S2x4096x512) o S1x4096x512.size inb).set = cut 0 1 p := by
  subst h
  exact unit_set_eq_cut 0 (by decide) (Nat.one_mul p).symm rfl fun a' h => by
    fin_cases a' <;> [exact absurd rfl h; exact ⟨rfl, rfl⟩; exact ⟨rfl, rfl⟩]

theorem ot_rect {o : Fin 3 → ℕ} {inb} {p : ℕ} (h : o = ![p, 0, 0]) :
    (Rect.unit (s := S2x512x512) o S1x512x512.size inb).set = cut 0 1 p := by
  subst h
  exact unit_set_eq_cut 0 (by decide) (Nat.one_mul p).symm rfl fun a' h => by
    fin_cases a' <;> [exact absurd rfl h; exact ⟨rfl, rfl⟩; exact ⟨rfl, rfl⟩]

theorem wf_rect {o : Fin 3 → ℕ} {inb} {p : ℕ} (h : o = ![p, 0, 0]) :
    (Rect.unit (s := S8x4096x512) o S1x4096x512.size inb).set = cut 0 1 p := by
  subst h
  exact unit_set_eq_cut 0 (by decide) (Nat.one_mul p).symm rfl fun a' h => by
    fin_cases a' <;> [exact absurd rfl h; exact ⟨rfl, rfl⟩; exact ⟨rfl, rfl⟩]

theorem w_rect {o : Fin 2 → ℕ} {inb} {p : ℕ} (h : o = ![0, 512 * p]) :
    (Rect.unit (s := S4096x8192) o S4096x512.size inb).set = cut 1 512 p := by
  subst h
  exact unit_set_eq_cut 1 (by decide) rfl rfl fun a' h => by fin_cases a' <;> [exact ⟨rfl, rfl⟩; exact absurd rfl h]

theorem o_rect {o : Fin 2 → ℕ} {inb} {p : ℕ} (h : o = ![0, 512 * p]) :
    (Rect.unit (s := S512x8192) o S512x512.size inb).set = cut 1 512 p := by
  subst h
  exact unit_set_eq_cut 1 (by decide) rfl rfl fun a' h => by fin_cases a' <;> [exact ⟨rfl, rfl⟩; exact absurd rfl h]

theorem wtV_set {o inb} {p : ℕ} (h : o = ![p, 0, 0]) : (wtV o inb).view.set = cut (s := S2x4096x512) 0 1 p :=
  (View.set_reshape _ _).trans ((View.set_slice_whole cc0_scratch2 _).trans (wt_rect h))
theorem wV_set {o inb} {p : ℕ} (h : o = ![0, 512 * p]) : (wV o inb).view.set = cut (s := S4096x8192) 1 512 p :=
  (View.set_slice_whole main_arg1 _).trans (w_rect h)
theorem otV_set {o inb} {p : ℕ} (h : o = ![p, 0, 0]) : (otV o inb).view.set = cut (s := S2x512x512) 0 1 p :=
  (View.set_reshape _ _).trans ((View.set_slice_whole cc0_scratch4 _).trans (ot_rect h))
theorem oV_set {o inb} {p : ℕ} (h : o = ![0, 512 * p]) : (oV o inb).view.set = cut (s := S512x8192) 1 512 p :=
  (View.set_slice_whole main_v1 _).trans (o_rect h)

theorem wt_acc {o : Fin 3 → ℕ} {inb} {p : ℕ} (h : o = ![p, 0, 0]) :
    ((Memref.whole cc0_scratch2).access (Rect.unit (s := S2x4096x512) o S1x4096x512.size inb)).set ⊆ cut (s := S2x4096x512) 0 1 p :=
  (Finset.Subset.antisymm_iff.mp (Eq.trans (View.set_slice_whole cc0_scratch2 (Rect.unit (s := S2x4096x512) o S1x4096x512.size inb)) (wt_rect h))).1
theorem ot_acc {o : Fin 3 → ℕ} {inb} {p : ℕ} (h : o = ![p, 0, 0]) :
    ((Memref.whole cc0_scratch4).access (Rect.unit (s := S2x512x512) o S1x512x512.size inb)).set ⊆ cut (s := S2x512x512) 0 1 p :=
  (Finset.Subset.antisymm_iff.mp (Eq.trans (View.set_slice_whole cc0_scratch4 (Rect.unit (s := S2x512x512) o S1x512x512.size inb)) (ot_rect h))).1

end Sets

/-! ## Contents through the views -/

section Contents

variable (w : Vec F S4096x8192 .f32) (sx sw : F .f32) (g : Vec F S512x4096 .fp8e4m3)

/-- A tile of the weights lands in its slot. -/
theorem tile_landed {t s : ℕ} (ht : t < 16) {o : Fin 3 → ℕ} {o' : Fin 2 → ℕ} {inb inb'} (ho : o = ![s, 0, 0])
    (ho' : o' = ![0, 512 * t]) (f : Vec F S2x4096x512 .f32) (i : S2x4096x512.Idx) (hi : i ∈ cut (s := S2x4096x512) 0 1 s) :
    (wtV o inb).view.write (Elt F) f ((wV o' inb').view.read (Elt F) w) Finset.univ i = WB w t i := by
  subst ho; subst ho'
  have h0 : (i 0).val = s := by rw [← Nat.div_one (i 0).val]; exact mem_cut.mp hi
  have h1 : (i 1).val < 4096 := (i 1).isLt
  have h2 : (i 2).val < 512 := (i 2).isLt
  refine (write_unit_reshape cc0_scratch2 (off := ![s, 0, 0]) (size := S1x4096x512.size) S4096x512 _ f _ i
    (ix2 ⟨(i 1).val, h1⟩ ⟨(i 2).val, h2⟩ : S4096x512.Idx) ?_).trans ?_
  · intro a
    have e := reshapeEquiv_ix2_1ab (a := 4096) (b := 512) (squeezes_S1x4096x512_S4096x512).numel_eq ⟨(i 1).val, h1⟩ ⟨(i 2).val, h2⟩
    refine Eq.trans ?_ (congrArg (fun j : S1x4096x512.Idx => (![s, 0, 0] : Fin 3 → ℕ) a + (j a).val) e.symm)
    fin_cases a
    · exact h0
    · exact (Nat.zero_add _).symm
    · exact (Nat.zero_add _).symm
  refine (read_unit main_arg1 (off := ![0, 512 * t]) (size := S4096x512.size) w
    (ix2 ⟨(i 1).val, h1⟩ ⟨(512 * t + (i 2).val) % 8192, Nat.mod_lt _ (by decide)⟩ : S4096x8192.Idx) _ ?_).trans rfl
  intro a
  fin_cases a
  · exact (Nat.zero_add _).symm
  · exact Nat.mod_eq_of_lt (by omega)

/-- What a load of the slot holding tile `t` reads. -/
theorem tile_read {t s : ℕ} {o : Fin 3 → ℕ} {inb} (ho : o = ![s, 0, 0]) :
    ((Memref.whole cc0_scratch2).access (Rect.unit (s := S2x4096x512) o S1x4096x512.size inb)).read (Elt F) (WB w t) = WV w t := by
  subst ho
  funext j
  have hs : s < 2 := by have := inb 0; show s + 1 ≤ 2; exact this
  have h0 : (j 0).val = 0 := by have : (j 0).val < 1 := (j 0).isLt; omega
  refine (read_unit cc0_scratch2 (off := ![s, 0, 0]) (size := S1x4096x512.size) (WB w t)
    (ix3 ⟨s, hs⟩ (j 1) (j 2) : S2x4096x512.Idx) j ?_).trans ?_
  · intro a
    fin_cases a
    · show s = s + (j 0).val; omega
    · exact (Nat.zero_add _).symm
    · exact (Nat.zero_add _).symm
  · rfl

/-- What a load of slot `t % 8` of the cast tiles reads. -/
theorem cast_read {t n : ℕ} (h1 : t < n) (h2 : n ≤ t + 8) (f : Vec F S8x4096x512 .fp8e4m3) (ht : t < 16) {o : Fin 3 → ℕ} {inb} (ho : o = ![t % 8, 0, 0]) :
    ((Memref.whole cc0_scratch3).access (Rect.unit (s := S8x4096x512) o S1x4096x512.size inb)).read (Elt F) (WG w n f) = W8 w t := by
  subst ho
  funext j
  have h0 : (j 0).val = 0 := by have : (j 0).val < 1 := (j 0).isLt; omega
  have hj : (ix3 ⟨0, Nat.one_pos⟩ (j 1) (j 2) : S1x4096x512.Idx) = j := by
    refine Eq.trans ?_ (eq_ix3 j).symm
    congr 1
    exact Fin.ext h0.symm
  refine (read_unit cc0_scratch3 (off := ![t % 8, 0, 0]) (size := S1x4096x512.size) (WG w n f)
    (ix3 ⟨t % 8, Nat.mod_lt _ (by decide)⟩ (j 1) (j 2) : S8x4096x512.Idx) j ?_).trans ?_
  · intro a
    fin_cases a
    · show t % 8 = t % 8 + (j 0).val; omega
    · exact (Nat.zero_add _).symm
    · exact (Nat.zero_add _).symm
  · show (if t % 8 + 8 < n then W8 w (t % 8 + 8) (ix3 ⟨0, Nat.one_pos⟩ (j 1) (j 2))
      else if t % 8 < n then W8 w (t % 8) (ix3 ⟨0, Nat.one_pos⟩ (j 1) (j 2)) else _) = _
    rw [hj]
    by_cases h : t < 8
    · rw [if_neg (by omega), if_pos (by omega), Nat.mod_eq_of_lt h]
    · rw [if_pos (by omega), show t % 8 + 8 = t by omega]

/-- Casting tile `n` into its slot. -/
theorem cast_stored {n : ℕ} (hn : n < 16) (f : Vec F S8x4096x512 .fp8e4m3) {o : Fin 3 → ℕ} {inb} (ho : o = ![n % 8, 0, 0]) :
    ((Memref.whole cc0_scratch3).access (Rect.unit (s := S8x4096x512) o S1x4096x512.size inb)).write (Elt F) (WG w n f) (W8 w n) Finset.univ
      = WG w (n + 1) f := by
  subst ho
  funext i
  have i0 : (i 0).val < 8 := (i 0).isLt
  by_cases hi : (i 0).val = n % 8
  · refine (write_unit cc0_scratch3 (off := ![n % 8, 0, 0]) (size := S1x4096x512.size) (WG w n f) (W8 w n) i
      (ix3 ⟨0, Nat.one_pos⟩ (i 1) (i 2) : S1x4096x512.Idx) ?_).trans ?_
    · intro a
      fin_cases a
      · exact hi
      · exact (Nat.zero_add _).symm
      · exact (Nat.zero_add _).symm
    · unfold WG
      by_cases h : n < 8
      · rw [if_neg (by omega), if_pos (by omega)]
        exact congrFun (congrArg (W8 w) (by omega)) _
      · rw [if_pos (by omega)]
        exact congrFun (congrArg (W8 w) (by omega)) _
  · refine (write_unit_off cc0_scratch3 (off := ![n % 8, 0, 0]) (size := S1x4096x512.size) (WG w n f) (W8 w n) i ?_).trans ?_
    · intro h
      have h' : i ∈ cut (s := S8x4096x512) 0 1 (n % 8) := (wf_rect rfl) ▸ h
      rw [mem_cut, Nat.div_one] at h'
      exact hi h'
    · unfold WG
      have e1 : ((i 0).val + 8 < n + 1) = ((i 0).val + 8 < n) := propext ⟨fun h => by omega, fun h => by omega⟩
      have e2 : ((i 0).val < n + 1) = ((i 0).val < n) := propext ⟨fun h => by omega, fun h => by omega⟩
      simp only [e1, e2]

/-- Storing output tile `t` into its slot. -/
theorem out_stored {t s : ℕ} (f : Vec F S2x512x512 .f32) {o : Fin 3 → ℕ} {inb} (ho : o = ![s, 0, 0]) (i : S2x512x512.Idx)
    (hi : i ∈ cut (s := S2x512x512) 0 1 s) :
    ((Memref.whole cc0_scratch4).access (Rect.unit (s := S2x512x512) o S1x512x512.size inb)).write (Elt F) f (OV w sx sw g t) Finset.univ i
      = OB w sx sw g t i := by
  subst ho
  have h0 : (i 0).val = s := by rw [← Nat.div_one (i 0).val]; exact mem_cut.mp hi
  refine (write_unit cc0_scratch4 (off := ![s, 0, 0]) (size := S1x512x512.size) f (OV w sx sw g t) i
    (ix3 ⟨0, Nat.one_pos⟩ (i 1) (i 2) : S1x512x512.Idx) ?_).trans rfl
  intro a
  fin_cases a
  · exact h0
  · exact (Nat.zero_add _).symm
  · exact (Nat.zero_add _).symm

/-- An output tile lands in the result. -/
theorem out_landed {t s : ℕ} {o : Fin 3 → ℕ} {o' : Fin 2 → ℕ} {inb inb'} (ho : o = ![s, 0, 0])
    (ho' : o' = ![0, 512 * t]) (f : Vec F S512x8192 .f32) (i : S512x8192.Idx) (hi : i ∈ cut (s := S512x8192) 1 512 t) :
    (oV o' inb').view.write (Elt F) f ((otV o inb).view.read (Elt F) (OB w sx sw g t)) Finset.univ i = OUT w sx sw g i := by
  subst ho; subst ho'
  have hs : s < 2 := by have := inb 0; show s + 1 ≤ 2; exact this
  have hc : (i 1).val / 512 = t := mem_cut.mp hi
  have h0 : (i 0).val < 512 := (i 0).isLt
  have h1 : (i 1).val % 512 < 512 := Nat.mod_lt _ (by decide)
  refine (write_unit main_v1 (off := ![0, 512 * t]) (size := S512x512.size) f _ i
    (ix2 ⟨(i 0).val, h0⟩ ⟨(i 1).val % 512, h1⟩ : S512x512.Idx) ?_).trans ?_
  · intro a
    fin_cases a
    · exact (Nat.zero_add _).symm
    · show (i 1).val = 512 * t + (i 1).val % 512
      omega
  have e := reshapeEquiv_ix2_1ab (a := 512) (b := 512) (squeezes_S1x512x512_S512x512).numel_eq ⟨(i 0).val, h0⟩ ⟨(i 1).val % 512, h1⟩
  refine (congrArg (((View.whole cc0_scratch4).slice (Rect.unit (s := S2x512x512) ![s, 0, 0] S1x512x512.size inb)).read (Elt F) (OB w sx sw g t)) e).trans ?_
  refine (read_unit cc0_scratch4 (off := ![s, 0, 0]) (size := S1x512x512.size) (OB w sx sw g t)
    (ix3 ⟨s, hs⟩ ⟨(i 0).val, h0⟩ ⟨(i 1).val % 512, h1⟩ : S2x512x512.Idx) _ ?_).trans ?_
  · intro a
    fin_cases a
    · rfl
    · exact (Nat.zero_add _).symm
    · exact (Nat.zero_add _).symm
  · unfold OUT OB
    rw [hc]

end Contents

/-! ## The weight ring -/

section Rings

variable (w : Vec F S4096x8192 .f32) (c : Dev nD)
variable {α : Type} {k : PUnit → Prog (TpuEff nD τ sig (Elt F) Λ₀ .tc) α}

/-- What a tile of the weights credits, and what an output tile does. -/
def NC : ℕ := (cc0_scratch2).dmaCredit S4096x512 .f32
def NO : ℕ := (main_v1).dmaCredit S512x512 .f32
omit [FloatOps F] in
theorem NC_pos : 0 < NC := by unfold NC; decide
omit [FloatOps F] in
theorem NO_pos : 0 < NO := by unfold NO; decide

/-- Slot `s` at rest, -/
def CIdle (s : ℕ) : sProp 𝕄 := iprop(semVal (copyCell c s) 0 ∗ ∃ f, pt c cc0_scratch2 (cut (s := S2x4096x512) 0 1 s) f)
/-- tile `t` landed in slot `s`, -/
def CData (s t : ℕ) : sProp 𝕄 :=
  iprop(pt c cc0_scratch2 (cut (s := S2x4096x512) 0 1 s) (WB w t) ∗ pt c main_arg1 (cut (s := S4096x8192) 1 512 t) w)
/-- tile `t` on its way into slot `s`. -/
def CFly (s t : ℕ) : sProp 𝕄 := Flight EC (c : Thread nD τ) (.dma (dq (3 + s))) () NC (CData w c s t)
/-- Tile `t`'s slot once its copy has been asked for (past the last tile: at rest). -/
def CF (t : ℕ) : sProp 𝕄 := if t < 16 then CFly w c (t % 2) t else CIdle c (t % 2)

/-- The weights outside tiles `n` and `n + 1`. -/
def Rest (n : ℕ) : Finset S4096x8192.Idx := Finset.univ.filter fun i => (i 1).val / 512 ≠ n ∧ (i 1).val / 512 ≠ n + 1

/-- Before tile `n` is taken: tiles `n` and `n + 1` on their way, the slots of cast tiles after `n`. -/
def Conv (f : Vec F S8x4096x512 .fp8e4m3) (n : ℕ) : sProp 𝕄 :=
  iprop(CF w c n ∗ CF w c (n + 1) ∗ pt c main_arg1 (Rest n) w ∗ pt c cc0_scratch3 Finset.univ (WG w n f))
/-- Tile `n` landed, `m` tiles cast. -/
def ConvB (f : Vec F S8x4096x512 .fp8e4m3) (n m : ℕ) : sProp 𝕄 :=
  iprop((semVal (copyCell c (n % 2)) 0 ∗ CData w c (n % 2) n) ∗ CF w c (n + 1) ∗ pt c main_arg1 (Rest n) w
    ∗ pt c cc0_scratch3 Finset.univ (WG w m f))

theorem start_step {Q : α → sProp 𝕄} {t s : ℕ} (hs : s = t % 2) (ht : t < 16) {o : Fin 3 → ℕ} {o' : Fin 2 → ℕ} {inb inb'}
    (ho : o = ![s, 0, 0]) (ho' : o' = ![0, 512 * t]) {sm : DmaSem sig} (hm : sm = dq (3 + s))
    {hsrc : (wV o' inb').view.WordExact} {hdst : (wtV o inb).view.WordExact}
    {hsem : DmaTarget.Typed .hbm (.dma sm) (.here (wtV o inb) : DmaTarget nD τ sig .tc .vmem S4096x512 .f32)} :
    iprop(CIdle (F := F) c s ∗ pt c main_arg1 (cut (s := S4096x8192) 1 512 t) w) ⊢ iprop((CF w c t -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (wV o' inb') (.here (wtV o inb)) (.dma sm) hsrc hdst hsem) k) Q) := by
  subst hm
  have hws := wV_set (inb := inb') ho'
  have hts := wtV_set (inb := inb) ho
  unfold CIdle CF
  rw [if_pos ht, ← hs]
  iintro ⟨⟨Hv, %f, Ht⟩, Hw⟩ Hk
  have h := wp_dmaLocal EC (Q := Q) (k := k) (defs := defs₀ (F := F)) 𝒱₀ (c : Thread nD τ) none (src := wV o' inb') (dst := wtV o inb) (via := .same)
    (sm := .dma (dq (3 + s))) (hsrc := hsrc) (hdst := hdst) (hsem := hsem) (q := fullShare) (fs := w) (fd := f)
    (Sd := cut (s := S2x4096x512) 0 1 s) () NC rfl NC_pos (by rw [hts])
  rw [hws] at h
  iapply h $$ [Hv Ht Hw]
  · isplitl [Hw]; · iexact Hw
    isplitl [Ht] <;> iassumption
  iintro HF
  iapply Hk
  unfold CFly CData
  iapply (Flight_mono EC (c : Thread nD τ) (Idealize.SL.BI.sep_mono (Entails.of_eq
    (pointsTo_congr fun i hi => tile_landed w ht ho ho' f i hi)) (BI.Entails.refl _))) $$ HF

/-- The next copy into the slot tile `n` has left. -/
theorem start_next {Q : α → sProp 𝕄} (f) {n s : ℕ} (hs : s = n % 2) (hn : n + 2 < 16) {o : Fin 3 → ℕ} {o' : Fin 2 → ℕ} {inb inb'}
    (ho : o = ![s, 0, 0]) (ho' : o' = ![0, 512 * (n + 2)]) {sm : DmaSem sig} (hm : sm = dq (3 + s))
    {hsrc : (wV o' inb').view.WordExact} {hdst : (wtV o inb).view.WordExact}
    {hsem : DmaTarget.Typed .hbm (.dma sm) (.here (wtV o inb) : DmaTarget nD τ sig .tc .vmem S4096x512 .f32)} :
    ConvB w c f n (n + 1) ⊢ iprop((Conv w c f (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (wV o' inb') (.here (wtV o inb)) (.dma sm) hsrc hdst hsem) k) Q) := by
  have hd : Disjoint (Rest n) (cut (s := S4096x8192) 1 512 n) := by
    rw [Finset.disjoint_left]; intro i hi h
    exact (Finset.mem_filter.mp hi).2.1 (mem_cut.mp h)
  have hd' : Disjoint (Rest (n + 1)) (cut (s := S4096x8192) 1 512 (n + 2)) := by
    rw [Finset.disjoint_left]; intro i hi h
    exact (Finset.mem_filter.mp hi).2.2 (mem_cut.mp h)
  have hu : Rest n ∪ cut (s := S4096x8192) 1 512 n = Rest (n + 1) ∪ cut (s := S4096x8192) 1 512 (n + 2) := by
    ext i
    simp only [Rest, Finset.mem_union, Finset.mem_filter, Finset.mem_univ, _root_.true_and, mem_cut]
    omega
  unfold ConvB CData Conv
  iintro ⟨⟨Hv, Ht, Hw⟩, HC, Hr, Hf⟩ Hk
  ihave Hu := (show iprop(pt c main_arg1 (Rest n) w ∗ pt c main_arg1 (cut (s := S4096x8192) 1 512 n) w)
      ⊢ (iprop(pt c main_arg1 (Rest (n + 1)) w ∗ pt c main_arg1 (cut (s := S4096x8192) 1 512 (n + 2)) w) : sProp 𝕄) from
    (pointsTo_union hd).2.trans ((Entails.of_eq (by rw [hu])).trans (pointsTo_union hd').1)) $$ [Hr Hw]
  · isplitl [Hr] <;> iassumption
  icases Hu with ⟨Hr, Hw⟩
  iapply (start_step (Q := Q) w c (t := n + 2) (s := s) (by omega) hn ho ho' hm) $$ [Hv Ht Hw]
  · isplitl [Hv Ht]
    · unfold CIdle; rw [hs]
      isplitl [Hv]; · iexact Hv
      iexists _; iexact Ht
    iexact Hw
  iintro HF
  iapply Hk
  isplitl [HC]; · iexact HC
  isplitl [HF]; · iexact HF
  isplitl [Hr] <;> iassumption

/-- Past the last tile there is no next copy. -/
theorem start_none (f) {n : ℕ} (hn : 16 ≤ n + 2) (hn' : n < 16) : ConvB w c f n (n + 1) ⊢ Conv w c f (n + 1) := by
  have hd : Disjoint (Rest n) (cut (s := S4096x8192) 1 512 n) := by
    rw [Finset.disjoint_left]; intro i hi h
    exact (Finset.mem_filter.mp hi).2.1 (mem_cut.mp h)
  have hu : Rest n ∪ cut (s := S4096x8192) 1 512 n = Rest (n + 1) := by
    ext i
    have : (i 1).val < 8192 := (i 1).isLt
    simp only [Rest, Finset.mem_union, Finset.mem_filter, Finset.mem_univ, _root_.true_and, mem_cut]
    omega
  unfold ConvB CData Conv
  iintro ⟨⟨Hv, Ht, Hw⟩, HC, Hr, Hf⟩
  isplitl [HC]; · iexact HC
  isplitl [Hv Ht]
  · unfold CF; rw [if_neg (by omega)]; unfold CIdle
    rw [show (n + 1 + 1) % 2 = n % 2 by omega]
    isplitl [Hv]; · iexact Hv
    iexists _; iexact Ht
  isplitl [Hr Hw]
  · rw [← hu]
    iapply (pointsTo_union hd).2
    isplitl [Hr] <;> iassumption
  iexact Hf

theorem copy_wait {Q : α → sProp 𝕄} (f) {n s : ℕ} (hs : s = n % 2) (hn : n < 16) {o : Fin 3 → ℕ} {o' : Fin 2 → ℕ} {inb inb'}
    {sm : DmaSem sig} (hm : sm = dq (3 + s)) {hsrc : (wV o' inb').view.WordExact} {hdst : (wtV o inb).view.WordExact} :
    iprop(Conv w c f n ∗ ows c 0) ⊢ iprop((iprop(ConvB w c f n n ∗ ows c 0) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm (wV o' inb') (wtV o inb) hsrc hdst) k) Q) := by
  subst hm; subst hs
  unfold Conv ConvB ows
  rw [CF, if_pos hn, CFly]
  iintro ⟨⟨HF, Hrest⟩, %W, HO⟩ Hk
  iapply (wp_waitLocal EC 𝒱₀ (c : Thread nD τ) none () (N := NC) rfl) $$ [HF HO]
  · isplitl [HF] <;> iassumption
  iintro ⟨HD, Hv, HO⟩
  iapply Hk
  isplitr [HO]
  · isplitl [HD Hv]
    · isplitl [Hv] <;> iassumption
    iexact Hrest
  iexists _; iexact HO

theorem tile_load {Q : α → sProp 𝕄} (f) {n m s : ℕ} (hs : s = n % 2) {o : Fin 3 → ℕ} {inb} (ho : o = ![s, 0, 0])
    {hl : (Memref.whole cc0_scratch2).view.LoadsAt (Rect.unit (s := S2x4096x512) o S1x4096x512.size inb).toLoadRect}
    {k : Vec F S1x4096x512 .f32 → Prog (TpuEff nD τ sig (Elt F) Λ₀ .tc) α} :
    ConvB w c f n m ⊢ iprop((ConvB w c f n m -∗ wp frame (wpE (defs₀ (F := F)) 𝒱₀ (c : Thread nD τ) none) Set.univ (k (WV w n)) Q)
      -∗ wp frame (wpE (defs₀ (F := F)) 𝒱₀ (c : Thread nD τ) none) Set.univ (.op (.load (Memref.whole cc0_scratch2) (Rect.unit (s := S2x4096x512) o S1x4096x512.size inb).toLoadRect hl) k) Q) := by
  subst hs
  unfold ConvB CData
  iintro ⟨⟨Hv, Ht, Hw⟩, Hrest⟩ Hk
  iapply (wp_load_rect 𝒱₀ (c : Thread nD τ) none Set.univ (k := k) (m := Memref.whole cc0_scratch2) (S := cut (s := S2x4096x512) 0 1 (n % 2)) (q := fullShare) (f := WB w n)
    (r := Rect.unit (s := S2x4096x512) o S1x4096x512.size inb) (wt_acc ho)) $$ [Ht]
  · iexact Ht
  iintro Ht
  rw [tile_read w ho]
  iapply Hk
  isplitl [Hv Ht Hw]
  · isplitl [Hv]; · iexact Hv
    isplitl [Ht] <;> iassumption
  iexact Hrest

/-- A load of the cast slots whose value is not used. -/
theorem cast_dead {Q : α → sProp 𝕄} (f) {n m : ℕ} {o : Fin 3 → ℕ} {inb}
    {hl : (Memref.whole cc0_scratch3).view.LoadsAt (Rect.unit (s := S8x4096x512) o S1x4096x512.size inb).toLoadRect}
    {k : Vec F S1x4096x512 .fp8e4m3 → Prog (TpuEff nD τ sig (Elt F) Λ₀ .tc) α} :
    ConvB w c f n m ⊢ iprop((∀ v, ConvB w c f n m -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch3) (Rect.unit (s := S8x4096x512) o S1x4096x512.size inb).toLoadRect hl) k) Q) := by
  unfold ConvB
  iintro ⟨HA, HB, Hr, Hf⟩ Hk
  iapply (wp_load_rect 𝒱₀ (c : Thread nD τ) none Set.univ (k := k) (m := Memref.whole cc0_scratch3) (S := Finset.univ) (q := fullShare) (f := WG w m f)
    (r := Rect.unit (s := S8x4096x512) o S1x4096x512.size inb)
    (Finset.subset_univ _)) $$ [Hf]
  · iexact Hf
  iintro Hf
  iapply Hk
  isplitl [HA]; · iexact HA
  isplitl [HB]; · iexact HB
  isplitl [Hr] <;> iassumption

theorem cast_store {Q : α → sProp 𝕄} (f) {n s : ℕ} (hs : s = n % 8) (hn : n < 16) {o : Fin 3 → ℕ} {inb} (ho : o = ![s, 0, 0])
    {v : Vec F S1x4096x512 .fp8e4m3} (hv : v = W8 w n)
    {hx : ((Memref.whole cc0_scratch3).access (Rect.unit (s := S8x4096x512) o S1x4096x512.size inb)).Stores Finset.univ}
    {hm : (Finset.univ : Finset (Rect.unit (s := S8x4096x512) o S1x4096x512.size inb).shape.Idx) = Finset.univ
      ∨ ∀ a, (Rect.unit (s := S8x4096x512) o S1x4096x512.size inb).stride a = 1} :
    ConvB w c f n n ⊢ iprop((ConvB w c f n (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch3) (Rect.unit (s := S8x4096x512) o S1x4096x512.size inb) v Finset.univ hx hm) k) Q) := by
  subst hs; subst hv
  unfold ConvB
  iintro ⟨HA, HB, Hr, Hf⟩ Hk
  iapply (wp_store 𝒱₀ (c : Thread nD τ) none Set.univ (k := k) (m := Memref.whole cc0_scratch3) (S := Finset.univ) (f := WG w n f)
    (r := Rect.unit (s := S8x4096x512) o S1x4096x512.size inb) (w := W8 w n) (Mk := Finset.univ)
    (Finset.subset_univ _)) $$ [Hf]
  · iexact Hf
  iintro Hf
  rw [cast_stored w hn f ho]
  iapply Hk
  isplitl [HA]; · iexact HA
  isplitl [HB]; · iexact HB
  isplitl [Hr] <;> iassumption

/-! ## The output ring -/

variable (sx sw : F .f32) (g : Vec F S512x4096 .fp8e4m3) (f₀ : Vec F S512x8192 .f32)

def OIdle (s : ℕ) : sProp 𝕄 := iprop(semVal (outCell c s) 0 ∗ ∃ f, pt c cc0_scratch4 (cut (s := S2x512x512) 0 1 s) f)
def OData (s t : ℕ) : sProp 𝕄 :=
  iprop(pt c main_v1 (cut (s := S512x8192) 1 512 t) (OUT w sx sw g) ∗ pt c cc0_scratch4 (cut (s := S2x512x512) 0 1 s) (OB w sx sw g t))
def OFly (s t : ℕ) : sProp 𝕄 := Flight EC (c : Thread nD τ) (.dma (dq (5 + s))) () NO (OData w c sx sw g s t)
/-- The slot of tile `j`, before tile `j` is put in: tile `j - 2` on its way out of it. -/
def OX (j : ℕ) : sProp 𝕄 := if 2 ≤ j then OFly w c sx sw g (j % 2) (j - 2) else OIdle c (j % 2)

/-- The result while tiles below `n` are done. -/
def part (n : ℕ) : Vec F S512x8192 .f32 := fun i => if (i 1).val / 512 < n then OUT w sx sw g i else f₀ i

theorem part_lt {n : ℕ} {i : S512x8192.Idx} (h : (i 1).val / 512 < n) : part w sx sw g f₀ n i = OUT w sx sw g i := if_pos h

def RestO (n : ℕ) : Finset S512x8192.Idx := Finset.univ.filter fun i => (i 1).val / 512 + 2 ≠ n ∧ (i 1).val / 512 + 2 ≠ n + 1
def RestB (n : ℕ) : Finset S512x8192.Idx := Finset.univ.filter fun i => (i 1).val / 512 + 2 ≠ n + 1

def Out (n : ℕ) : sProp 𝕄 :=
  iprop(OX w c sx sw g n ∗ OX w c sx sw g (n + 1) ∗ pt c main_v1 (RestO n) (part w sx sw g f₀ n))
def OutB (n : ℕ) : sProp 𝕄 :=
  iprop(OIdle (F := F) c (n % 2) ∗ OX w c sx sw g (n + 1) ∗ pt c main_v1 (RestB n) (part w sx sw g f₀ n))
def OutC (n : ℕ) : sProp 𝕄 :=
  iprop((semVal (outCell c (n % 2)) 0 ∗ pt c cc0_scratch4 (cut (s := S2x512x512) 0 1 (n % 2)) (OB w sx sw g n))
    ∗ OX w c sx sw g (n + 1) ∗ pt c main_v1 (RestB n) (part w sx sw g f₀ n))

theorem out_wait {Q : α → sProp 𝕄} {n s : ℕ} (hs : s = n % 2) (hn : 2 ≤ n) {o : Fin 3 → ℕ} {o' : Fin 2 → ℕ} {inb inb'}
    {sm : DmaSem sig} (hm : sm = dq (5 + s)) {hdst : (oV o' inb').view.WordExact} {hsrc : (otV o inb).view.WordExact} :
    iprop(Out w c sx sw g f₀ n ∗ ows c 0) ⊢ iprop((iprop(OutB w c sx sw g f₀ n ∗ ows c 0) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm (otV o inb) (oV o' inb') hsrc hdst) k) Q) := by
  subst hm; subst hs
  have hd : Disjoint (RestO n) (cut (s := S512x8192) 1 512 (n - 2)) := by
    rw [Finset.disjoint_left]; intro i hi h
    have := (Finset.mem_filter.mp hi).2.1
    rw [mem_cut] at h
    omega
  have hu : RestB n = RestO n ∪ cut (s := S512x8192) 1 512 (n - 2) := by
    ext i
    simp only [RestO, RestB, Finset.mem_union, Finset.mem_filter, Finset.mem_univ, _root_.true_and, mem_cut]
    omega
  have e : (pt c main_v1 (cut (s := S512x8192) 1 512 (n - 2)) (OUT w sx sw g) : sProp 𝕄)
      = pt c main_v1 (cut (s := S512x8192) 1 512 (n - 2)) (part w sx sw g f₀ n) :=
    pointsTo_congr fun i hi => (part_lt w sx sw g f₀ (by rw [mem_cut] at hi; omega)).symm
  unfold Out OutB ows
  rw [OX, if_pos hn, OFly]
  iintro ⟨⟨HF, HX, Hr⟩, %W, HO⟩ Hk
  iapply (wp_waitLocal EC 𝒱₀ (c : Thread nD τ) none () (N := NO) rfl) $$ [HF HO]
  · isplitl [HF] <;> iassumption
  unfold OData
  iintro ⟨⟨Ho, Ht⟩, Hv, HO⟩
  iapply Hk
  isplitr [HO]
  · isplitl [Hv Ht]
    · unfold OIdle
      isplitl [Hv]; · iexact Hv
      iexists _; iexact Ht
    isplitl [HX]; · iexact HX
    rw [hu]
    iapply (pointsTo_union hd).2
    isplitl [Hr]; · iexact Hr
    iapply (Entails.of_eq e) $$ Ho
  iexists _; iexact HO

theorem out_first {n : ℕ} (hn : n < 2) : Out w c sx sw g f₀ n ⊢ OutB w c sx sw g f₀ n := by
  have hu : RestB n = RestO n := by
    ext i
    simp only [RestO, RestB, Finset.mem_filter, Finset.mem_univ, _root_.true_and]
    omega
  unfold Out OutB
  rw [OX, if_neg (by omega), hu]

theorem out_dead {Q : α → sProp 𝕄} {n s : ℕ} (hs : s = n % 2) {o : Fin 3 → ℕ} {inb} (ho : o = ![s, 0, 0])
    {hl : (Memref.whole cc0_scratch4).view.LoadsAt (Rect.unit (s := S2x512x512) o S1x512x512.size inb).toLoadRect}
    {k : Vec F S1x512x512 .f32 → Prog (TpuEff nD τ sig (Elt F) Λ₀ .tc) α} :
    OutB w c sx sw g f₀ n ⊢ iprop((∀ v, OutB w c sx sw g f₀ n -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch4) (Rect.unit (s := S2x512x512) o S1x512x512.size inb).toLoadRect hl) k) Q) := by
  subst hs
  unfold OutB OIdle
  iintro ⟨⟨Hv, %f, Ht⟩, Hrest⟩ Hk
  iapply (wp_load_rect 𝒱₀ (c : Thread nD τ) none Set.univ (k := k) (m := Memref.whole cc0_scratch4) (S := cut (s := S2x512x512) 0 1 (n % 2)) (q := fullShare) (f := f)
    (r := Rect.unit (s := S2x512x512) o S1x512x512.size inb) (ot_acc ho)) $$ [Ht]
  · iexact Ht
  iintro Ht
  iapply Hk
  isplitl [Hv Ht]
  · isplitl [Hv]; · iexact Hv
    iexists f; iexact Ht
  iexact Hrest

theorem out_store {Q : α → sProp 𝕄} {n s : ℕ} (hs : s = n % 2) {o : Fin 3 → ℕ} {inb} (ho : o = ![s, 0, 0])
    {v : Vec F S1x512x512 .f32} (hv : v = OV w sx sw g n)
    {hx : ((Memref.whole cc0_scratch4).access (Rect.unit (s := S2x512x512) o S1x512x512.size inb)).Stores Finset.univ}
    {hm : (Finset.univ : Finset (Rect.unit (s := S2x512x512) o S1x512x512.size inb).shape.Idx) = Finset.univ
      ∨ ∀ a, (Rect.unit (s := S2x512x512) o S1x512x512.size inb).stride a = 1} :
    OutB w c sx sw g f₀ n ⊢ iprop((OutC w c sx sw g f₀ n -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch4) (Rect.unit (s := S2x512x512) o S1x512x512.size inb) v Finset.univ hx hm) k) Q) := by
  subst hs; subst hv
  unfold OutB OutC OIdle
  iintro ⟨⟨Hv, %f, Ht⟩, Hrest⟩ Hk
  iapply (wp_store 𝒱₀ (c : Thread nD τ) none Set.univ (k := k) (m := Memref.whole cc0_scratch4) (S := cut (s := S2x512x512) 0 1 (n % 2)) (f := f)
    (r := Rect.unit (s := S2x512x512) o S1x512x512.size inb) (w := OV w sx sw g n) (Mk := Finset.univ)
    (by rw [View.setOn_univ]; exact ot_acc ho)) $$ [Ht]
  · iexact Ht
  iintro Ht
  iapply Hk
  isplitl [Hv Ht]
  · isplitl [Hv]; · iexact Hv
    iapply (Entails.of_eq (pointsTo_congr fun i hi => out_stored w sx sw g f ho i hi)) $$ Ht
  iexact Hrest

theorem out_send {Q : α → sProp 𝕄} {n s : ℕ} (hs : s = n % 2) (hn : n < 16) {o : Fin 3 → ℕ} {o' : Fin 2 → ℕ} {inb inb'}
    (ho : o = ![s, 0, 0]) (ho' : o' = ![0, 512 * n]) {sm : DmaSem sig} (hm : sm = dq (5 + s))
    {hdst : (oV o' inb').view.WordExact} {hsrc : (otV o inb).view.WordExact}
    {hsem : DmaTarget.Typed .vmem (.dma sm) (.here (oV o' inb') : DmaTarget nD τ sig .tc .hbm S512x512 .f32)} :
    OutC w c sx sw g f₀ n ⊢ iprop((Out w c sx sw g f₀ (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (otV o inb) (.here (oV o' inb')) (.dma sm) hsrc hdst hsem) k) Q) := by
  subst hm
  have hos := oV_set (inb := inb') ho'
  have hts := otV_set (inb := inb) ho
  have hd : Disjoint (RestO (n + 1)) (cut (s := S512x8192) 1 512 n) := by
    rw [Finset.disjoint_left]; intro i hi h
    have := (Finset.mem_filter.mp hi).2.2
    rw [mem_cut] at h
    omega
  have hu : RestB n = RestO (n + 1) ∪ cut (s := S512x8192) 1 512 n := by
    ext i
    simp only [RestO, RestB, Finset.mem_union, Finset.mem_filter, Finset.mem_univ, _root_.true_and, mem_cut]
    omega
  have ep : (pt c main_v1 (RestO (n + 1)) (part w sx sw g f₀ n) : sProp 𝕄) = pt c main_v1 (RestO (n + 1)) (part w sx sw g f₀ (n + 1)) :=
    pointsTo_congr fun i hi => by
      have := (Finset.mem_filter.mp hi).2.2
      unfold part
      have e : ((i 1).val / 512 < n) = ((i 1).val / 512 < n + 1) := propext ⟨fun h => by omega, fun h => by omega⟩
      simp only [e]
  unfold OutC Out
  rw [← hs, hu]
  iintro ⟨⟨Hv, Ht⟩, HX, Hr⟩ Hk
  ihave Hu := (pointsTo_union hd).1 $$ Hr
  icases Hu with ⟨Hr, Ho⟩
  have h := wp_dmaLocal EC (Q := Q) (k := k) (defs := defs₀ (F := F)) 𝒱₀ (c : Thread nD τ) none (src := otV o inb) (dst := oV o' inb') (via := .same)
    (sm := .dma (dq (5 + s))) (hsrc := hsrc) (hdst := hdst) (hsem := hsem) (q := fullShare) (fs := OB w sx sw g n) (fd := part w sx sw g f₀ n)
    (Sd := cut (s := S512x8192) 1 512 n) () NO rfl NO_pos (by rw [hos])
  rw [hts] at h
  iapply h $$ [Hv Ht Ho]
  · isplitl [Ht]; · iexact Ht
    isplitl [Ho] <;> iassumption
  iintro HF
  iapply Hk
  isplitl [HX]; · iexact HX
  isplitl [HF]
  · rw [OX, if_pos (by omega), show n + 1 + 1 - 2 = n by omega, show (n + 1 + 1) % 2 = s by omega]
    unfold OFly OData
    iapply (Flight_mono EC (c : Thread nD τ) (Idealize.SL.BI.sep_mono (Entails.of_eq
      (pointsTo_congr fun i hi => out_landed w sx sw g ho ho' _ i hi)) (BI.Entails.refl _))) $$ HF
  rw [← ep]; iexact Hr

end Rings

end Cert.A2A

end
-- ==== Proof.Parts.lean ====
/-
# The all-to-all product: the stretches of the body before the loop

Each stretch of the body, from the state it starts in to the state it ends in.
-/
module

public import proofs.«01_k».proof.Proof.Tiles

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx (ix2 ix3 eq_ix2 eq_ix3)
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (x : Dev nD → Vec F S4096x512 .f32) (K : Dev nD × Fin 15 → ℕ) (w : Vec F S4096x8192 .f32) (c : Dev nD)
variable {α : Type}

/-! ## A device's own block -/

/-- Row block `c` of device `c`'s cast `x`. -/
def RX : Vec F S512x512 .fp8e4m3 := fun j =>
  XF x c (ix2 ⟨512 * c.val + (j 0).val, by have : (j 0).val < 512 := (j 0).isLt; have : c.val < 8 := c.isLt; omega⟩ ⟨(j 1).val, (j 1).isLt⟩)

theorem own_read {o : Fin 2 → ℕ} {inb} (ho : o = ![512 * c.val, 0]) :
    ((Memref.whole cc0_scratch0).access (Rect.unit (s := S4096x512) o S512x512.size inb)).read (Elt F) (XF x c) = RX x c := by
  subst ho
  funext j
  refine (read_unit cc0_scratch0 (off := ![512 * c.val, 0]) (size := S512x512.size) (XF x c)
    (ix2 ⟨512 * c.val + (j 0).val, by have : (j 0).val < 512 := (j 0).isLt; have : c.val < 8 := c.isLt; omega⟩ ⟨(j 1).val, (j 1).isLt⟩ : S4096x512.Idx) j ?_).trans rfl
  intro a
  fin_cases a
  · rfl
  · exact (Nat.zero_add _).symm

theorem own_stored {o : Fin 2 → ℕ} {inb} (ho : o = ![0, 512 * c.val]) (f : Vec F S512x4096 .fp8e4m3) (i : S512x4096.Idx)
    (hi : i ∈ cut (s := S512x4096) 1 512 c.val) :
    ((Memref.whole cc0_scratch1).access (Rect.unit (s := S512x4096) o S512x512.size inb)).write (Elt F) f (k0_pay2 (RX x c)) Finset.univ i = XG x c i := by
  subst ho
  have hc : (i 1).val / 512 = c.val := mem_cut.mp hi
  have h0 : (i 0).val < 512 := (i 0).isLt
  refine (write_unit cc0_scratch1 (off := ![0, 512 * c.val]) (size := S512x512.size) f _ i
    (ix2 ⟨(i 0).val, h0⟩ ⟨(i 1).val % 512, Nat.mod_lt _ (by decide)⟩ : S512x512.Idx) ?_).trans ?_
  · intro a
    fin_cases a
    · exact (Nat.zero_add _).symm
    · show (i 1).val = 512 * c.val + (i 1).val % 512
      omega
  · unfold k0_pay2
    rw [shapeCast_self]
    show XF x c _ = XF x _ _
    congr 1
    exact Fin.ext hc.symm

theorem off_zero₂ {o : Fin 2 → ℕ} (ho : o = ![0, 0]) : o = fun _ => 0 := by
  subst ho; funext a; fin_cases a <;> rfl

theorem load_x {Q : α → sProp 𝕄} {o : Fin 2 → ℕ} {inb} (ho : o = ![0, 0])
    {hl : (Memref.whole cc0_stg0_0).view.LoadsAt (Rect.unit (s := S4096x512) o S4096x512.size inb).toLoadRect}
    {k : Vec F S4096x512 .f32 → Prog (TpuEff nD τ sig (Elt F) Λ₀ .tc) α} :
    pt c cc0_stg0_0 Finset.univ (x c) ⊢ iprop((pt c cc0_stg0_0 Finset.univ (x c) -∗ wp frame (wpE (defs₀ (F := F)) 𝒱₀ (c : Thread nD τ) none) Set.univ (k (x c)) Q)
      -∗ wp frame (wpE (defs₀ (F := F)) 𝒱₀ (c : Thread nD τ) none) Set.univ (.op (.load (Memref.whole cc0_stg0_0) (Rect.unit (s := S4096x512) o S4096x512.size inb).toLoadRect hl) k) Q) := by
  have h := wp_load (defs := defs₀ (F := F)) (Γ := []) (Q := Q) 𝒱₀ (c : Thread nD τ) none Set.univ (k := k) (m := Memref.whole cc0_stg0_0)
    (r := (Rect.unit (s := S4096x512) o S4096x512.size inb).toLoadRect) (hl := hl) (S := Finset.univ) (q := fullShare) (f := x c)
    (Finset.subset_univ _)
  have e := Memref.readAt_unit_zero (Elt F) cc0_stg0_0 (off_zero₂ ho) inb (x c)
  exact h.trans (wand_mono (wand_mono .rfl (Entails.of_eq (congrArg (fun v => wp frame (wpE (defs₀ (F := F)) 𝒱₀ (c : Thread nD τ) none) Set.univ (k v) Q) e.symm))) .rfl)

theorem xf_dead {Q : α → sProp 𝕄} {f} {o : Fin 2 → ℕ} {inb}
    {hl : (Memref.whole cc0_scratch0).view.LoadsAt (Rect.unit (s := S4096x512) o S4096x512.size inb).toLoadRect}
    {k : Vec F S4096x512 .fp8e4m3 → Prog (TpuEff nD τ sig (Elt F) Λ₀ .tc) α} :
    pt c cc0_scratch0 Finset.univ f ⊢ iprop((∀ v, pt c cc0_scratch0 Finset.univ f -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch0) (Rect.unit (s := S4096x512) o S4096x512.size inb).toLoadRect hl) k) Q) := by
  iintro H Hk
  iapply (wp_load_rect 𝒱₀ (c : Thread nD τ) none Set.univ (k := k) (m := Memref.whole cc0_scratch0)
    (r := Rect.unit (s := S4096x512) o S4096x512.size inb) (S := Finset.univ) (q := fullShare) (f := f) (Finset.subset_univ _)) $$ [H]
  · iexact H
  iintro H
  iapply Hk; iexact H

theorem xf_store {Q : α → sProp 𝕄} {f} {o : Fin 2 → ℕ} {inb} (ho : o = ![0, 0]) {v : Vec F S4096x512 .fp8e4m3} (hv : v = XF x c)
    {hx : ((Memref.whole cc0_scratch0).access (Rect.unit (s := S4096x512) o S4096x512.size inb)).Stores Finset.univ}
    {hm : (Finset.univ : Finset (Rect.unit (s := S4096x512) o S4096x512.size inb).shape.Idx) = Finset.univ
      ∨ ∀ a, (Rect.unit (s := S4096x512) o S4096x512.size inb).stride a = 1}
    {k : PUnit → Prog (TpuEff nD τ sig (Elt F) Λ₀ .tc) α} :
    pt c cc0_scratch0 Finset.univ f ⊢ iprop((pt c cc0_scratch0 Finset.univ (XF x c) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch0) (Rect.unit (s := S4096x512) o S4096x512.size inb) v Finset.univ hx hm) k) Q) := by
  subst hv
  iintro H Hk
  iapply (wp_store 𝒱₀ (c : Thread nD τ) none Set.univ (k := k) (m := Memref.whole cc0_scratch0) (S := Finset.univ) (f := f)
    (r := Rect.unit (s := S4096x512) o S4096x512.size inb) (w := XF x c) (Mk := Finset.univ) (Finset.subset_univ _)) $$ [H]
  · iexact H
  iintro H
  have e := Memref.write_access_unit_zero_univ (Elt F) cc0_scratch0 (off_zero₂ ho) inb f (XF x c)
  iapply Hk
  iapply (Entails.of_eq (congrArg (fun g => (pt c cc0_scratch0 Finset.univ g : sProp 𝕄)) e)) $$ H

theorem xf_read {Q : α → sProp 𝕄} {o : Fin 2 → ℕ} {inb} (ho : o = ![512 * c.val, 0])
    {hl : (Memref.whole cc0_scratch0).view.LoadsAt (Rect.unit (s := S4096x512) o S512x512.size inb).toLoadRect}
    {k : Vec F S512x512 .fp8e4m3 → Prog (TpuEff nD τ sig (Elt F) Λ₀ .tc) α} :
    pt c cc0_scratch0 Finset.univ (XF x c) ⊢ iprop((pt c cc0_scratch0 Finset.univ (XF x c) -∗ wp frame (wpE (defs₀ (F := F)) 𝒱₀ (c : Thread nD τ) none) Set.univ (k (RX x c)) Q)
      -∗ wp frame (wpE (defs₀ (F := F)) 𝒱₀ (c : Thread nD τ) none) Set.univ (.op (.load (Memref.whole cc0_scratch0) (Rect.unit (s := S4096x512) o S512x512.size inb).toLoadRect hl) k) Q) := by
  iintro H Hk
  iapply (wp_load_rect 𝒱₀ (c : Thread nD τ) none Set.univ (k := k) (m := Memref.whole cc0_scratch0)
    (r := Rect.unit (s := S4096x512) o S512x512.size inb) (S := Finset.univ) (q := fullShare) (f := XF x c) (Finset.subset_univ _)) $$ [H]
  · iexact H
  iintro H
  rw [own_read x c ho]
  iapply Hk; iexact H

theorem xg_own {o : Fin 2 → ℕ} {inb} (ho : o = ![0, 512 * c.val]) :
    ((Memref.whole cc0_scratch1).access (Rect.unit (s := S512x4096) o S512x512.size inb)).set = cut (s := S512x4096) 1 512 c.val := by
  exact (View.set_slice_whole cc0_scratch1 _).trans (xg_set ho)

theorem xg_dead {Q : α → sProp 𝕄} {f} {o : Fin 2 → ℕ} {inb} (ho : o = ![0, 512 * c.val])
    {hl : (Memref.whole cc0_scratch1).view.LoadsAt (Rect.unit (s := S512x4096) o S512x512.size inb).toLoadRect}
    {k : Vec F S512x512 .fp8e4m3 → Prog (TpuEff nD τ sig (Elt F) Λ₀ .tc) α} :
    pt c cc0_scratch1 (cut (s := S512x4096) 1 512 c.val) f ⊢ iprop((∀ v, pt c cc0_scratch1 (cut (s := S512x4096) 1 512 c.val) f -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch1) (Rect.unit (s := S512x4096) o S512x512.size inb).toLoadRect hl) k) Q) := by
  iintro H Hk
  iapply (wp_load_rect 𝒱₀ (c : Thread nD τ) none Set.univ (k := k) (m := Memref.whole cc0_scratch1)
    (r := Rect.unit (s := S512x4096) o S512x512.size inb) (S := cut (s := S512x4096) 1 512 c.val) (q := fullShare) (f := f)
    (Finset.Subset.antisymm_iff.mp (xg_own c ho)).1) $$ [H]
  · iexact H
  iintro H
  iapply Hk; iexact H

theorem xg_store {Q : α → sProp 𝕄} {f} {o : Fin 2 → ℕ} {inb} (ho : o = ![0, 512 * c.val]) {v : Vec F S512x512 .fp8e4m3} (hv : v = k0_pay2 (RX x c))
    {hx : ((Memref.whole cc0_scratch1).access (Rect.unit (s := S512x4096) o S512x512.size inb)).Stores Finset.univ}
    {hm : (Finset.univ : Finset (Rect.unit (s := S512x4096) o S512x512.size inb).shape.Idx) = Finset.univ
      ∨ ∀ a, (Rect.unit (s := S512x4096) o S512x512.size inb).stride a = 1}
    {k : PUnit → Prog (TpuEff nD τ sig (Elt F) Λ₀ .tc) α} :
    pt c cc0_scratch1 (cut (s := S512x4096) 1 512 c.val) f ⊢ iprop((pt c cc0_scratch1 (cut (s := S512x4096) 1 512 c.val) (XG x c) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch1) (Rect.unit (s := S512x4096) o S512x512.size inb) v Finset.univ hx hm) k) Q) := by
  subst hv
  iintro H Hk
  iapply (wp_store 𝒱₀ (c : Thread nD τ) none Set.univ (k := k) (m := Memref.whole cc0_scratch1) (S := cut (s := S512x4096) 1 512 c.val) (f := f)
    (r := Rect.unit (s := S512x4096) o S512x512.size inb) (w := k0_pay2 (RX x c)) (Mk := Finset.univ)
    (by rw [View.setOn_univ]; exact (Finset.Subset.antisymm_iff.mp (xg_own c ho)).1)) $$ [H]
  · iexact H
  iintro H
  have e : (pt c cc0_scratch1 (cut (s := S512x4096) 1 512 c.val) (((Memref.whole cc0_scratch1).access (Rect.unit (s := S512x4096) o S512x512.size inb)).write (Elt F) f
      (k0_pay2 (RX x c)) Finset.univ) : sProp 𝕄) = pt c cc0_scratch1 (cut (s := S512x4096) 1 512 c.val) (XG x c) :=
    pointsTo_congr fun i hi => own_stored x c ho f i hi
  iapply Hk
  iapply (Entails.of_eq e) $$ H

/-! ## One tile taken and cast -/

theorem conv_tile {Q : α → sProp 𝕄} (f) {n s s' : ℕ} (hs : s = n % 2) (hs' : s' = n % 8) (hn : n < 16)
    {o o₁ o₂ o₃ : Fin 3 → ℕ} {o' : Fin 2 → ℕ} {inb inb' inb₁ inb₂ inb₃} (ho₁ : o₁ = ![s, 0, 0]) (ho₃ : o₃ = ![s', 0, 0])
    {sm : DmaSem sig} (hm : sm = dq (3 + s)) {hsrc : (wV o' inb').view.WordExact} {hdst : (wtV o inb).view.WordExact}
    {hl : (Memref.whole cc0_scratch2).view.LoadsAt (Rect.unit (s := S2x4096x512) o₁ S1x4096x512.size inb₁).toLoadRect}
    {hl' : (Memref.whole cc0_scratch3).view.LoadsAt (Rect.unit (s := S8x4096x512) o₂ S1x4096x512.size inb₂).toLoadRect}
    {p : Vec F S1x4096x512 .f32 → Vec F S1x4096x512 .fp8e4m3} (hp : p (WV w n) = W8 w n)
    {hx : ((Memref.whole cc0_scratch3).access (Rect.unit (s := S8x4096x512) o₃ S1x4096x512.size inb₃)).Stores Finset.univ}
    {hm' : (Finset.univ : Finset (Rect.unit (s := S8x4096x512) o₃ S1x4096x512.size inb₃).shape.Idx) = Finset.univ
      ∨ ∀ a, (Rect.unit (s := S8x4096x512) o₃ S1x4096x512.size inb₃).stride a = 1}
    {k : PUnit → Prog (TpuEff nD τ sig (Elt F) Λ₀ .tc) α} :
    iprop(Conv w c f n ∗ ows c 0) ⊢ iprop((iprop(ConvB w c f n (n + 1) ∗ ows c 0) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm (wV o' inb') (wtV o inb) hsrc hdst) fun _ =>
          .op (.load (Memref.whole cc0_scratch2) (Rect.unit (s := S2x4096x512) o₁ S1x4096x512.size inb₁).toLoadRect hl) fun v =>
          .op (.load (Memref.whole cc0_scratch3) (Rect.unit (s := S8x4096x512) o₂ S1x4096x512.size inb₂).toLoadRect hl') fun _ =>
          .op (.store (Memref.whole cc0_scratch3) (Rect.unit (s := S8x4096x512) o₃ S1x4096x512.size inb₃) (p v) Finset.univ hx hm') k) Q) := by
  iintro H Hk
  iapply (copy_wait w c f hs hn hm) $$ H
  iintro ⟨H, HO⟩
  iapply (tile_load w c f hs ho₁) $$ H
  iintro H
  iapply (cast_dead w c f) $$ H
  iintro %v H
  iapply (cast_store w c f hs' hn ho₃ hp) $$ H
  iintro H
  iapply Hk
  isplitl [H] <;> iassumption

/-! ## The stretches -/

set_option maxHeartbeats 1000000 in
theorem part1 {Q} : SigS x K c 0 ⊢ iprop((∀ v2 v24 v, SigS x K c 5 -∗ Q ⟨c, v2, SemArray.scalar (sig.barrier 0 rfl), v24, v⟩)
    -∗ wp frame (wpE (defs₀ (F := F)) 𝒱₀ (c : Thread nD τ) none) Set.univ (k0_part1 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Q) := by
  rw [k0_part1_eq_skeleton]; unfold k0_part1_skel
  simp only [semSignalWord, semWaitWord, Prog.lift, Prog.bind_op, Prog.bind_ret, Prog.pure_eq_ret, wp_deviceId]
  iintro H Hk
  iapply (sig_step x K c (j := 0) (by decide) (Fin.ext (k0_dev1_eq c)) rfl) $$ H; iintro H
  iapply (sig_step x K c (j := 1) (by decide) (Fin.ext (k0_dev2_eq c)) rfl) $$ H; iintro H
  iapply (sig_step x K c (j := 2) (by decide) (Fin.ext (k0_dev3_eq c)) rfl) $$ H; iintro H
  iapply (sig_step x K c (j := 3) (by decide) (Fin.ext (k0_dev4_eq c)) rfl) $$ H; iintro H
  iapply (sig_step x K c (j := 4) (by decide) (Fin.ext (k0_dev5_eq c)) rfl) $$ H; iintro H
  rw [wp_ret]; imodintro
  iapply Hk; iexact H

set_option maxHeartbeats 1000000 in
theorem part2 {Q v2 v24 v} : iprop(SigS x K c 5 ∗ (atPos ER (barCell c) 0 ∅ 0 ∗ cred (tallyAt (barCell c) () 7) ∗ levAts L lv)
      ∗ (CIdle (F := F) c 0 ∗ CIdle (F := F) c 1 ∗ pt c main_arg1 Finset.univ w) ∗ pt c cc0_stg0_0 Finset.univ (x c) ∗ ∃ f, pt c cc0_scratch0 Finset.univ f)
    ⊢ iprop((iprop((recs x K ∗ ows c (owedR c 0) ∗ semVal (barCell c) 0 ∗ bigSep (Finset.range 7) (barPay (F := F) c))
          ∗ (CF w c 0 ∗ CF w c 1 ∗ pt c main_arg1 (Rest 0) w) ∗ pt c cc0_stg0_0 Finset.univ (x c) ∗ pt c cc0_scratch0 Finset.univ (XF x c))
        -∗ Q (RX x c))
    -∗ wp frame (wpE (defs₀ (F := F)) 𝒱₀ (c : Thread nD τ) none) Set.univ (k0_part2 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 (SemArray.scalar (sig.barrier 0 rfl)) v24 v) Q) := by
  rw [k0_part2_eq_skeleton]; unfold k0_part2_skel
  simp only [semSignalWord, semWaitWord, Prog.lift, Prog.bind_op, Prog.bind_ret, Prog.pure_eq_ret, wp_deviceId]
  have hd : Disjoint (cut (s := S4096x8192) 1 512 0) (cut (s := S4096x8192) 1 512 1) := cut_disjoint _ _ (by decide)
  have hd' : Disjoint (cut (s := S4096x8192) 1 512 0 ∪ cut (s := S4096x8192) 1 512 1) (Rest 0) := by
    rw [Finset.disjoint_left]; intro i hi h
    have := (Finset.mem_filter.mp h).2
    rw [Finset.mem_union, mem_cut, mem_cut] at hi
    omega
  have hu : (Finset.univ : Finset S4096x8192.Idx) = (cut (s := S4096x8192) 1 512 0 ∪ cut (s := S4096x8192) 1 512 1) ∪ Rest 0 := by
    ext i
    refine ⟨fun _ => ?_, fun _ => Finset.mem_univ _⟩
    rw [Finset.mem_union, Finset.mem_union, mem_cut, mem_cut, Rest, Finset.mem_filter]
    by_cases h0 : (i 1).val / 512 = 0
    · exact .inl (.inl h0)
    by_cases h1 : (i 1).val / 512 = 1
    · exact .inl (.inr h1)
    exact .inr ⟨Finset.mem_univ _, h0, h1⟩
  rw [hu]
  iintro ⟨H, ⟨Hat, Hc, Hlev⟩, ⟨HC0, HC1, Hw⟩, Hx, %fx, Hxf⟩ Hk
  ihave Hw2 := (pointsTo_union hd').1 $$ Hw
  icases Hw2 with ⟨Hw01, Hwr⟩
  ihave Hw3 := (pointsTo_union hd).1 $$ Hw01
  icases Hw3 with ⟨Hw0, Hw1⟩
  iapply (sig_step x K c (j := 5) (by decide) (Fin.ext (k0_dev6_eq c)) rfl) $$ H; iintro H
  iapply (sig_step x K c (j := 6) (by decide) (Fin.ext (k0_dev7_eq c)) rfl) $$ H; iintro H
  iapply (bar_wait x K c rfl) $$ [H Hat Hc Hlev]
  · isplitl [H]; · iexact H
    isplitl [Hat]; · iexact Hat
    isplitl [Hc] <;> iassumption
  iintro H
  iapply (start_step w c (t := 0) (s := 0) rfl (by decide) rfl rfl (copy_sem (s := 0) (by decide) rfl)) $$ [HC0 Hw0]
  · isplitl [HC0] <;> iassumption
  iintro HC0
  iapply (start_step w c (t := 1) (s := 1) rfl (by decide) rfl rfl (copy_sem (s := 1) (by decide) rfl)) $$ [HC1 Hw1]
  · isplitl [HC1] <;> iassumption
  iintro HC1
  iapply (load_x x c rfl) $$ Hx
  iintro Hx
  iapply (xf_dead c) $$ Hxf
  iintro %vd Hxf
  iapply (xf_store x c (o := ![0, 0]) rfl (v := k0_pay1 (x c)) rfl) $$ Hxf
  iintro Hxf
  iapply (xf_read x c (k0_off1_eq c)) $$ Hxf
  iintro Hxf
  rw [wp_ret]; imodintro
  iapply Hk
  isplitl [H]; · iexact H
  isplitl [HC0 HC1 Hwr]
  · isplitl [HC0]; · iexact HC0
    isplitl [HC1] <;> iassumption
  isplitl [Hx] <;> iassumption

theorem part3 {Q v2} : iprop((∃ f, pt c cc0_scratch1 (cut (s := S512x4096) 1 512 c.val) f) ∗ SendS x K c 0)
    ⊢ iprop((∀ v, iprop(pt c cc0_scratch1 (cut (s := S512x4096) 1 512 c.val) (XG x c) ∗ SendS x K c 2) -∗ Q v)
    -∗ wp frame (wpE (defs₀ (F := F)) 𝒱₀ (c : Thread nD τ) none) Set.univ (k0_part3 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 (RX x c)) Q) := by
  rw [k0_part3_eq_skeleton]; unfold k0_part3_skel
  simp only [semSignalWord, semWaitWord, Prog.lift, Prog.bind_op, Prog.bind_ret, Prog.pure_eq_ret, wp_deviceId]
  iintro ⟨Hg, H⟩ Hk
  icases Hg with ⟨%f, Hg⟩
  iapply (xg_dead c (k0_off2_eq c)) $$ Hg
  iintro %vd Hg
  iapply (xg_store x c (k0_off2_eq c) (v := k0_pay2 (RX x c)) rfl) $$ Hg
  iintro Hg
  iapply (send_step x K c (j := 0) (by decide) (Fin.ext (k0_dev8_eq c)) (k0_off4_eq c 0) (k0_off3_eq c)
    (send_sem (s := 0) (by decide) rfl) (recv_sem (s := 0) (by decide) rfl)) $$ H
  iintro H
  iapply (send_step x K c (j := 1) (by decide) (Fin.ext (k0_dev9_eq c)) (k0_off4_eq c 1) (k0_off3_eq c)
    (send_sem (s := 1) (by decide) rfl) (recv_sem (s := 1) (by decide) rfl)) $$ H
  iintro H
  rw [wp_ret]; imodintro
  iapply Hk
  isplitl [Hg] <;> iassumption

theorem part4 {Q v2 v81} : SendS x K c 2 ⊢ iprop((SendS x K c 4 -∗ Q ⟨⟩) -∗ wp frame (wpE (defs₀ (F := F)) 𝒱₀ (c : Thread nD τ) none) Set.univ (k0_part4 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v81) Q) := by
  rw [k0_part4_eq_skeleton]; unfold k0_part4_skel
  simp only [semSignalWord, semWaitWord, Prog.lift, Prog.bind_op, Prog.bind_ret, Prog.pure_eq_ret, wp_deviceId]
  iintro H Hk
  iapply (send_step x K c (j := 2) (by decide) (Fin.ext (k0_dev10_eq c)) (k0_off4_eq c 2) (k0_off3_eq c)
    (send_sem (s := 2) (by decide) rfl) (recv_sem (s := 2) (by decide) rfl)) $$ H
  iintro H
  iapply (send_step x K c (j := 3) (by decide) (Fin.ext (k0_dev11_eq c)) (k0_off4_eq c 3) (k0_off3_eq c)
    (send_sem (s := 3) (by decide) rfl) (recv_sem (s := 3) (by decide) rfl)) $$ H
  iintro H
  rw [wp_ret]; imodintro
  iapply Hk; iexact H

theorem part5 {Q v2} : SendS x K c 4 ⊢ iprop((SendS x K c 7 -∗ Q ⟨⟩) -∗ wp frame (wpE (defs₀ (F := F)) 𝒱₀ (c : Thread nD τ) none) Set.univ (k0_part5 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Q) := by
  rw [k0_part5_eq_skeleton]; unfold k0_part5_skel
  simp only [semSignalWord, semWaitWord, Prog.lift, Prog.bind_op, Prog.bind_ret, Prog.pure_eq_ret, wp_deviceId]
  iintro H Hk
  iapply (send_step x K c (j := 4) (by decide) (Fin.ext (k0_dev12_eq c)) (k0_off4_eq c 4) (k0_off3_eq c)
    (send_sem (s := 4) (by decide) rfl) (recv_sem (s := 4) (by decide) rfl)) $$ H
  iintro H
  iapply (send_step x K c (j := 5) (by decide) (Fin.ext (k0_dev13_eq c)) (k0_off4_eq c 5) (k0_off3_eq c)
    (send_sem (s := 5) (by decide) rfl) (recv_sem (s := 5) (by decide) rfl)) $$ H
  iintro H
  iapply (send_step x K c (j := 6) (by decide) (Fin.ext (k0_dev14_eq c)) (k0_off4_eq c 6) (k0_off3_eq c)
    (send_sem (s := 6) (by decide) rfl) (recv_sem (s := 6) (by decide) rfl)) $$ H
  iintro H
  rw [wp_ret]; imodintro
  iapply Hk; iexact H

theorem part6 {Q} (f) : iprop(Conv w c f 0 ∗ ows c 0) ⊢ iprop((iprop(ConvB w c f 1 2 ∗ ows c 0) -∗ Q ⟨⟩) -∗ wp frame (wpE (defs₀ (F := F)) 𝒱₀ (c : Thread nD τ) none) Set.univ (k0_part6 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Q) := by
  rw [k0_part6_eq_skeleton]; unfold k0_part6_skel
  simp only [semSignalWord, semWaitWord, Prog.lift, Prog.bind_op, Prog.bind_ret, Prog.pure_eq_ret, wp_deviceId]
  iintro H Hk
  iapply (conv_tile w c f (n := 0) (s := 0) (s' := 0) rfl rfl (by decide) rfl rfl (copy_sem (s := 0) (by decide) rfl) (p := k0_pay3) rfl) $$ H
  iintro ⟨H, HO⟩
  iapply (start_next w c f (n := 0) (s := 0) rfl (by decide) rfl rfl (copy_sem (s := 0) (by decide) rfl)) $$ H
  iintro H
  iapply (conv_tile w c f (n := 1) (s := 1) (s' := 1) rfl rfl (by decide) rfl rfl (copy_sem (s := 1) (by decide) rfl) (p := k0_pay4) rfl) $$ [H HO]
  · isplitl [H] <;> iassumption
  iintro H
  rw [wp_ret]; imodintro
  iapply Hk; iexact H

theorem part7 {Q} (f) : iprop(ConvB w c f 1 2 ∗ ows c 0)
    ⊢ iprop((iprop(ConvB w c f 3 3 ∗ ows c 0) -∗ Q (k0_pay6 (WV w 3))) -∗ wp frame (wpE (defs₀ (F := F)) 𝒱₀ (c : Thread nD τ) none) Set.univ (k0_part7 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Q) := by
  rw [k0_part7_eq_skeleton]; unfold k0_part7_skel
  simp only [semSignalWord, semWaitWord, Prog.lift, Prog.bind_op, Prog.bind_ret, Prog.pure_eq_ret, wp_deviceId]
  iintro ⟨H, HO⟩ Hk
  iapply (start_next w c f (n := 1) (s := 1) rfl (by decide) rfl rfl (copy_sem (s := 1) (by decide) rfl)) $$ H
  iintro H
  iapply (conv_tile w c f (n := 2) (s := 0) (s' := 2) rfl rfl (by decide) rfl rfl (copy_sem (s := 0) (by decide) rfl) (p := k0_pay5) rfl) $$ [H HO]
  · isplitl [H] <;> iassumption
  iintro ⟨H, HO⟩
  iapply (start_next w c f (n := 2) (s := 0) rfl (by decide) rfl rfl (copy_sem (s := 0) (by decide) rfl)) $$ H
  iintro H
  iapply (copy_wait w c f (n := 3) (s := 1) rfl (by decide) (copy_sem (s := 1) (by decide) rfl)) $$ [H HO]
  · isplitl [H] <;> iassumption
  iintro ⟨H, HO⟩
  iapply (tile_load w c f (n := 3) (s := 1) rfl rfl) $$ H
  iintro H
  rw [wp_ret]; imodintro
  iapply Hk
  isplitl [H] <;> iassumption

theorem part8 {Q} (f) : iprop(ConvB w c f 3 3 ∗ ows c 0)
    ⊢ iprop((iprop(Conv w c f 5 ∗ ows c 0) -∗ Q ⟨⟩) -∗ wp frame (wpE (defs₀ (F := F)) 𝒱₀ (c : Thread nD τ) none) Set.univ (k0_part8 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 (k0_pay6 (WV w 3))) Q) := by
  rw [k0_part8_eq_skeleton]; unfold k0_part8_skel
  simp only [semSignalWord, semWaitWord, Prog.lift, Prog.bind_op, Prog.bind_ret, Prog.pure_eq_ret, wp_deviceId]
  iintro ⟨H, HO⟩ Hk
  iapply (cast_dead w c f) $$ H
  iintro %v H
  iapply (cast_store w c f (n := 3) (s := 3) rfl (by decide) rfl (v := k0_pay7 (k0_pay6 (WV w 3))) rfl) $$ H
  iintro H
  iapply (start_next w c f (n := 3) (s := 1) rfl (by decide) rfl rfl (copy_sem (s := 1) (by decide) rfl)) $$ H
  iintro H
  iapply (conv_tile w c f (n := 4) (s := 0) (s' := 4) rfl rfl (by decide) rfl rfl (copy_sem (s := 0) (by decide) rfl) (p := k0_pay8) rfl) $$ [H HO]
  · isplitl [H] <;> iassumption
  iintro ⟨H, HO⟩
  iapply (start_next w c f (n := 4) (s := 0) rfl (by decide) rfl rfl (copy_sem (s := 0) (by decide) rfl)) $$ H
  iintro H
  rw [wp_ret]; imodintro
  iapply Hk
  isplitl [H] <;> iassumption

theorem part9 {Q} (f) : iprop(Conv w c f 5 ∗ ows c 0)
    ⊢ iprop((iprop(ConvB w c f 6 7 ∗ ows c 0) -∗ Q ⟨⟩) -∗ wp frame (wpE (defs₀ (F := F)) 𝒱₀ (c : Thread nD τ) none) Set.univ (k0_part9 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Q) := by
  rw [k0_part9_eq_skeleton]; unfold k0_part9_skel
  simp only [semSignalWord, semWaitWord, Prog.lift, Prog.bind_op, Prog.bind_ret, Prog.pure_eq_ret, wp_deviceId]
  iintro H Hk
  iapply (conv_tile w c f (n := 5) (s := 1) (s' := 5) rfl rfl (by decide) rfl rfl (copy_sem (s := 1) (by decide) rfl) (p := k0_pay9) rfl) $$ H
  iintro ⟨H, HO⟩
  iapply (start_next w c f (n := 5) (s := 1) rfl (by decide) rfl rfl (copy_sem (s := 1) (by decide) rfl)) $$ H
  iintro H
  iapply (conv_tile w c f (n := 6) (s := 0) (s' := 6) rfl rfl (by decide) rfl rfl (copy_sem (s := 0) (by decide) rfl) (p := k0_pay10) rfl) $$ [H HO]
  · isplitl [H] <;> iassumption
  iintro H
  rw [wp_ret]; imodintro
  iapply Hk; iexact H

theorem part10 {Q v2} (f) : iprop(ConvB w c f 6 7 ∗ ows c 0)
    ⊢ iprop((iprop(Conv w c f 8 ∗ ows c 0) -∗ Q ⟨⟩) -∗ wp frame (wpE (defs₀ (F := F)) 𝒱₀ (c : Thread nD τ) none) Set.univ (k0_part10 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v2) Q) := by
  rw [k0_part10_eq_skeleton]; unfold k0_part10_skel
  simp only [semSignalWord, semWaitWord, Prog.lift, Prog.bind_op, Prog.bind_ret, Prog.pure_eq_ret, wp_deviceId]
  iintro ⟨H, HO⟩ Hk
  iapply (start_next w c f (n := 6) (s := 0) rfl (by decide) rfl rfl (copy_sem (s := 0) (by decide) rfl)) $$ H
  iintro H
  iapply (conv_tile w c f (n := 7) (s := 1) (s' := 7) rfl rfl (by decide) rfl rfl (copy_sem (s := 1) (by decide) rfl) (p := k0_pay11) rfl) $$ [H HO]
  · isplitl [H] <;> iassumption
  iintro ⟨H, HO⟩
  iapply (start_next w c f (n := 7) (s := 1) rfl (by decide) rfl rfl (copy_sem (s := 1) (by decide) rfl)) $$ H
  iintro H
  rw [wp_ret]; imodintro
  iapply Hk
  isplitl [H] <;> iassumption

theorem part11 {Q v2} : RecvS x K c 0 ⊢ iprop((RecvS x K c 3 -∗ Q ⟨⟩) -∗ wp frame (wpE (defs₀ (F := F)) 𝒱₀ (c : Thread nD τ) none) Set.univ (k0_part11 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Q) := by
  rw [k0_part11_eq_skeleton]; unfold k0_part11_skel
  simp only [semSignalWord, semWaitWord, Prog.lift, Prog.bind_op, Prog.bind_ret, Prog.pure_eq_ret, wp_deviceId]
  iintro H Hk
  iapply (recv_step x K c (j := 0) (by decide) (recv_sem (s := 0) (by decide) rfl)) $$ H; iintro H
  iapply (recv_step x K c (j := 1) (by decide) (recv_sem (s := 1) (by decide) rfl)) $$ H; iintro H
  iapply (recv_step x K c (j := 2) (by decide) (recv_sem (s := 2) (by decide) rfl)) $$ H; iintro H
  rw [wp_ret]; imodintro
  iapply Hk; iexact H

theorem part12 {Q v2} : RecvS x K c 3 ⊢ iprop((∀ v, RecvS x K c 6 -∗ Q v) -∗ wp frame (wpE (defs₀ (F := F)) 𝒱₀ (c : Thread nD τ) none) Set.univ (k0_part12 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Q) := by
  rw [k0_part12_eq_skeleton]; unfold k0_part12_skel
  simp only [semSignalWord, semWaitWord, Prog.lift, Prog.bind_op, Prog.bind_ret, Prog.pure_eq_ret, wp_deviceId]
  iintro H Hk
  iapply (recv_step x K c (j := 3) (by decide) (recv_sem (s := 3) (by decide) rfl)) $$ H; iintro H
  iapply (recv_step x K c (j := 4) (by decide) (recv_sem (s := 4) (by decide) rfl)) $$ H; iintro H
  iapply (recv_step x K c (j := 5) (by decide) (recv_sem (s := 5) (by decide) rfl)) $$ H; iintro H
  rw [wp_ret]; imodintro
  iapply Hk; iexact H

theorem part14 {Q} : DoneS x K c 0 ⊢ iprop((DoneS x K c 6 -∗ Q ⟨⟩) -∗ wp frame (wpE (defs₀ (F := F)) 𝒱₀ (c : Thread nD τ) none) Set.univ (k0_part14 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c) Q) := by
  rw [k0_part14_eq_skeleton]; unfold k0_part14_skel
  simp only [semSignalWord, semWaitWord, Prog.lift, Prog.bind_op, Prog.bind_ret, Prog.pure_eq_ret, wp_deviceId]
  iintro H Hk
  iapply (done_step x K c (j := 0) (by decide) (send_sem (s := 0) (by decide) rfl)) $$ H; iintro H
  iapply (done_step x K c (j := 1) (by decide) (send_sem (s := 1) (by decide) rfl)) $$ H; iintro H
  iapply (done_step x K c (j := 2) (by decide) (send_sem (s := 2) (by decide) rfl)) $$ H; iintro H
  iapply (done_step x K c (j := 3) (by decide) (send_sem (s := 3) (by decide) rfl)) $$ H; iintro H
  iapply (done_step x K c (j := 4) (by decide) (send_sem (s := 4) (by decide) rfl)) $$ H; iintro H
  iapply (done_step x K c (j := 5) (by decide) (send_sem (s := 5) (by decide) rfl)) $$ H; iintro H
  rw [wp_ret]; imodintro
  iapply Hk; iexact H

end Cert.A2A

end
-- ==== Proof.Body.lean ====
/-
# The all-to-all product: the loop, and the body whole
-/
module

public import proofs.«01_k».proof.Proof.Parts

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx (ix2 ix3 eq_ix2 eq_ix3)
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

/-! ## Device families around the ring -/

section RingFamilies

theorem ring_univ (c : Dev nD) : (Finset.univ : Finset (Dev nD)) = insert c ((Finset.range 7).image fun s => rot (s + 1) c) := by
  revert c; decide

/-- A family over the devices: the device's own member, and those at ring distance one to seven. -/
theorem ring_split (c : Dev nD) (Φ : Dev nD → sProp 𝕄) :
    bigSep Finset.univ Φ = iprop(Φ c ∗ bigSep (Finset.range 7) fun s => Φ (rot (s + 1) c)) := by
  rw [ring_univ c, bigSep_insert (by revert c; decide)]
  rw [bigSep_image_of_injOn (by
    intro a ha b hb h
    have ha : a < 7 := Finset.mem_range.mp ha
    have hb : b < 7 := Finset.mem_range.mp hb
    have h := congrArg Fin.val h
    simp only [rot_val] at h
    omega)]
  rfl

/-- Seven members counted from the other end. -/
theorem range_flip (Φ : ℕ → sProp 𝕄) : bigSep (Finset.range 7) Φ = bigSep (Finset.range 7) fun s => Φ (6 - s) := by
  conv_lhs => rw [show Finset.range 7 = (Finset.range 7).image (fun s => 6 - s) by decide]
  rw [bigSep_image_of_injOn (by
    intro a ha b hb h
    have ha : a < 7 := Finset.mem_range.mp ha
    have hb : b < 7 := Finset.mem_range.mp hb
    have h : 6 - a = 6 - b := h
    omega)]

theorem ico_range (Φ : ℕ → sProp 𝕄) : bigSep (Finset.Ico 0 7) Φ = bigSep (Finset.range 7) Φ := by
  rw [Finset.range_eq_Ico]

theorem xf_split (c : Dev nD) (f : Vec F S4096x512 .fp8e4m3) :
    (pt c cc0_scratch0 Finset.univ f : sProp 𝕄) = iprop(pt c cc0_scratch0 (cut (s := S4096x512) 0 512 c.val) f
      ∗ bigSep (Finset.range 7) fun s => pt c cc0_scratch0 (cut (s := S4096x512) 0 512 (rot (s + 1) c).val) f) := by
  have h : (pt c cc0_scratch0 Finset.univ f : sProp 𝕄) = bigSep Finset.univ fun p : Dev nD => pt c cc0_scratch0 (cut (s := S4096x512) 0 512 p.val) f :=
    Ring.pointsTo_blocks (ℓ := (c : Thread nD τ).loc cc0_scratch0) (fun p : Dev nD => cut (s := S4096x512) 0 512 p.val)
    (fun p q h => cut_disjoint _ _ fun e => h (Fin.ext e))
    (Finset.eq_univ_iff_forall.mpr fun i => Finset.mem_biUnion.mpr
      ⟨⟨(i 0).val / 512, by have : (i 0).val < 4096 := (i 0).isLt; show _ < 8; omega⟩, Finset.mem_univ _, mem_cut.mpr rfl⟩)
    (q := fullShare) f
  exact h.trans (ring_split c _)

theorem xg_split (c : Dev nD) (f : Vec F S512x4096 .fp8e4m3) :
    (pt c cc0_scratch1 Finset.univ f : sProp 𝕄) = iprop(pt c cc0_scratch1 (cut (s := S512x4096) 1 512 c.val) f
      ∗ bigSep (Finset.range 7) fun s => pt c cc0_scratch1 (cut (s := S512x4096) 1 512 (rot (s + 1) c).val) f) := by
  have h : (pt c cc0_scratch1 Finset.univ f : sProp 𝕄) = bigSep Finset.univ fun p : Dev nD => pt c cc0_scratch1 (cut (s := S512x4096) 1 512 p.val) f :=
    Ring.pointsTo_blocks (ℓ := (c : Thread nD τ).loc cc0_scratch1) (fun p : Dev nD => cut (s := S512x4096) 1 512 p.val)
    (fun p q h => cut_disjoint _ _ fun e => h (Fin.ext e))
    (Finset.eq_univ_iff_forall.mpr fun i => Finset.mem_biUnion.mpr
      ⟨⟨(i 1).val / 512, by have : (i 1).val < 4096 := (i 1).isLt; show _ < 8; omega⟩, Finset.mem_univ _, mem_cut.mpr rfl⟩)
    (q := fullShare) f
  exact h.trans (ring_split c _)

theorem two_cover {s : Shape} (a : Fin s.rank) (h : s.size a = 2) :
    (Finset.univ : Finset (Fin 2)).biUnion (fun b => cut (s := s) a 1 b.val) = Finset.univ :=
  Finset.eq_univ_iff_forall.mpr fun i => Finset.mem_biUnion.mpr
    ⟨⟨(i a).val, by have := (i a).isLt; omega⟩, Finset.mem_univ _, mem_cut.mpr (Nat.div_one _)⟩

theorem wt_split (c : Dev nD) : (iprop(∃ f, pt c cc0_scratch2 Finset.univ f) : sProp 𝕄)
    ⊢ iprop((∃ f, pt c cc0_scratch2 (cut (s := S2x4096x512) 0 1 0) f) ∗ ∃ f, pt c cc0_scratch2 (cut (s := S2x4096x512) 0 1 1) f) := by
  iintro ⟨%f, H⟩
  have h : (pt c cc0_scratch2 Finset.univ f : sProp 𝕄) = bigSep Finset.univ fun b : Fin 2 => pt c cc0_scratch2 (cut (s := S2x4096x512) 0 1 b.val) f :=
    Ring.pointsTo_blocks (ℓ := (c : Thread nD τ).loc cc0_scratch2) (fun b : Fin 2 => cut (s := S2x4096x512) 0 1 b.val)
    (fun p q h => cut_disjoint _ _ fun e => h (Fin.ext e)) (two_cover (s := S2x4096x512) 0 rfl) (q := fullShare) f
  have h2 : (pt c cc0_scratch2 Finset.univ f : sProp 𝕄)
      = iprop(pt c cc0_scratch2 (cut (s := S2x4096x512) 0 1 0) f ∗ pt c cc0_scratch2 (cut (s := S2x4096x512) 0 1 1) f) := h.trans (bigSep_fin_two _)
  ihave H2 := (Entails.of_eq h2) $$ H
  icases H2 with ⟨H0, H1⟩
  isplitl [H0]
  · iexists f; iexact H0
  · iexists f; iexact H1

theorem wt_join (c : Dev nD) (f₀ : Vec F S2x4096x512 .f32) :
    iprop((∃ f, pt c cc0_scratch2 (cut (s := S2x4096x512) 0 1 0) f) ∗ ∃ f, pt c cc0_scratch2 (cut (s := S2x4096x512) 0 1 1) f)
    ⊢ (iprop(∃ f, pt c cc0_scratch2 Finset.univ f) : sProp 𝕄) := by
  have h : (bigSep Finset.univ fun b : Fin 2 => iprop(∃ f, pt c cc0_scratch2 (cut (s := S2x4096x512) 0 1 b.val) f)) ⊢ (iprop(∃ f, pt c cc0_scratch2 Finset.univ f) : sProp 𝕄) :=
    Ring.pointsTo_blocks_join_exists (ℓ := (c : Thread nD τ).loc cc0_scratch2) (fun b : Fin 2 => cut (s := S2x4096x512) 0 1 b.val)
    (fun p q h => cut_disjoint _ _ fun e => h (Fin.ext e)) (two_cover (s := S2x4096x512) 0 rfl) (q := fullShare) f₀
  rw [bigSep_fin_two] at h
  exact h

theorem ot_split (c : Dev nD) : (iprop(∃ f, pt c cc0_scratch4 Finset.univ f) : sProp 𝕄)
    ⊢ iprop((∃ f, pt c cc0_scratch4 (cut (s := S2x512x512) 0 1 0) f) ∗ ∃ f, pt c cc0_scratch4 (cut (s := S2x512x512) 0 1 1) f) := by
  iintro ⟨%f, H⟩
  have h : (pt c cc0_scratch4 Finset.univ f : sProp 𝕄) = bigSep Finset.univ fun b : Fin 2 => pt c cc0_scratch4 (cut (s := S2x512x512) 0 1 b.val) f :=
    Ring.pointsTo_blocks (ℓ := (c : Thread nD τ).loc cc0_scratch4) (fun b : Fin 2 => cut (s := S2x512x512) 0 1 b.val)
    (fun p q h => cut_disjoint _ _ fun e => h (Fin.ext e)) (two_cover (s := S2x512x512) 0 rfl) (q := fullShare) f
  have h2 : (pt c cc0_scratch4 Finset.univ f : sProp 𝕄)
      = iprop(pt c cc0_scratch4 (cut (s := S2x512x512) 0 1 0) f ∗ pt c cc0_scratch4 (cut (s := S2x512x512) 0 1 1) f) := h.trans (bigSep_fin_two _)
  ihave H2 := (Entails.of_eq h2) $$ H
  icases H2 with ⟨H0, H1⟩
  isplitl [H0]
  · iexists f; iexact H0
  · iexists f; iexact H1

theorem ot_join (c : Dev nD) (f₀ : Vec F S2x512x512 .f32) :
    iprop((∃ f, pt c cc0_scratch4 (cut (s := S2x512x512) 0 1 0) f) ∗ ∃ f, pt c cc0_scratch4 (cut (s := S2x512x512) 0 1 1) f)
    ⊢ (iprop(∃ f, pt c cc0_scratch4 Finset.univ f) : sProp 𝕄) := by
  have h : (bigSep Finset.univ fun b : Fin 2 => iprop(∃ f, pt c cc0_scratch4 (cut (s := S2x512x512) 0 1 b.val) f)) ⊢ (iprop(∃ f, pt c cc0_scratch4 Finset.univ f) : sProp 𝕄) :=
    Ring.pointsTo_blocks_join_exists (ℓ := (c : Thread nD τ).loc cc0_scratch4) (fun b : Fin 2 => cut (s := S2x512x512) 0 1 b.val)
    (fun p q h => cut_disjoint _ _ fun e => h (Fin.ext e)) (two_cover (s := S2x512x512) 0 rfl) (q := fullShare) f₀
  rw [bigSep_fin_two] at h
  exact h

end RingFamilies

variable (x : Dev nD → Vec F S4096x512 .f32) (K : Dev nD × Fin 15 → ℕ) (w : Vec F S4096x8192 .f32) (c : Dev nD)
variable (sx sw : F .f32) (g : Vec F S512x4096 .fp8e4m3) (f₀ : Vec F S512x8192 .f32)
variable {α : Type}

/-! ## The loop -/

/-- A stretch that some trips begin with, before the rest of the trip. -/
theorem wp_dite_share {p : Prop} {inst : Decidable p} {A B : sProp 𝕄} {a : p → Prog (TpuEff nD τ sig (Elt F) Λ₀ .tc) α}
    {R : Prog (TpuEff nD τ sig (Elt F) Λ₀ .tc) α} {Q : α → sProp 𝕄}
    (h1 : ∀ h, A ⊢ iprop((B -∗ wp frame (wpE (defs₀ (F := F)) 𝒱₀ (c : Thread nD τ) none) Set.univ R Q) -∗ wp frame (wpE (defs₀ (F := F)) 𝒱₀ (c : Thread nD τ) none) Set.univ (a h) Q)) (h2 : ¬p → A ⊢ B) (hr : B ⊢ wp frame (wpE (defs₀ (F := F)) 𝒱₀ (c : Thread nD τ) none) Set.univ R Q) :
    A ⊢ wp frame (wpE (defs₀ (F := F)) 𝒱₀ (c : Thread nD τ) none) Set.univ (dite p a fun _ => R) Q := by
  split
  · iintro H
    iapply (h1 _) $$ H
    iintro H
    iapply hr $$ H
  · exact (h2 ‹_›).trans hr

theorem cond1_iff : ∀ t : Fin k0_t1_loop.trips, k0_cond1 t = 1#1 ↔ 2 ≤ t.val := by decide
theorem cond2_iff : ∀ t : Fin k0_t1_loop.trips, k0_cond2 t = 1#1 ↔ t.val + 8 < 16 := by decide
theorem cond3_iff : ∀ t : Fin k0_t1_loop.trips, k0_cond3 t = 1#1 ↔ t.val + 10 < 16 := by decide

theorem load_g {Q : α → sProp 𝕄} {o : Fin 2 → ℕ} {inb} (ho : o = ![0, 0])
    {hl : (Memref.whole cc0_scratch1).view.LoadsAt (Rect.unit (s := S512x4096) o S512x4096.size inb).toLoadRect}
    {k : Vec F S512x4096 .fp8e4m3 → Prog (TpuEff nD τ sig (Elt F) Λ₀ .tc) α} :
    pt c cc0_scratch1 Finset.univ g ⊢ iprop((pt c cc0_scratch1 Finset.univ g -∗ wp frame (wpE (defs₀ (F := F)) 𝒱₀ (c : Thread nD τ) none) Set.univ (k g) Q)
      -∗ wp frame (wpE (defs₀ (F := F)) 𝒱₀ (c : Thread nD τ) none) Set.univ (.op (.load (Memref.whole cc0_scratch1) (Rect.unit (s := S512x4096) o S512x4096.size inb).toLoadRect hl) k) Q) := by
  have h := wp_load (defs := defs₀ (F := F)) (Γ := []) (Q := Q) 𝒱₀ (c : Thread nD τ) none Set.univ (k := k) (m := Memref.whole cc0_scratch1)
    (r := (Rect.unit (s := S512x4096) o S512x4096.size inb).toLoadRect) (hl := hl) (S := Finset.univ) (q := fullShare) (f := g)
    (Finset.subset_univ _)
  have e := Memref.readAt_unit_zero (Elt F) cc0_scratch1 (off_zero₂ ho) inb g
  exact h.trans (wand_mono (wand_mono .rfl (Entails.of_eq (congrArg (fun v => wp frame (wpE (defs₀ (F := F)) 𝒱₀ (c : Thread nD τ) none) Set.univ (k v) Q) e.symm))) .rfl)

theorem cast_load {Q : α → sProp 𝕄} (f) {t n s : ℕ} (hs : s = t % 8) (h1 : t < n) (h2 : n ≤ t + 8) (ht : t < 16) {o : Fin 3 → ℕ} {inb} (ho : o = ![s, 0, 0])
    {hl : (Memref.whole cc0_scratch3).view.LoadsAt (Rect.unit (s := S8x4096x512) o S1x4096x512.size inb).toLoadRect}
    {k : Vec F S1x4096x512 .fp8e4m3 → Prog (TpuEff nD τ sig (Elt F) Λ₀ .tc) α} :
    Conv w c f n ⊢ iprop((Conv w c f n -∗ wp frame (wpE (defs₀ (F := F)) 𝒱₀ (c : Thread nD τ) none) Set.univ (k (W8 w t)) Q)
      -∗ wp frame (wpE (defs₀ (F := F)) 𝒱₀ (c : Thread nD τ) none) Set.univ (.op (.load (Memref.whole cc0_scratch3) (Rect.unit (s := S8x4096x512) o S1x4096x512.size inb).toLoadRect hl) k) Q) := by
  subst hs
  unfold Conv
  iintro ⟨HA, HB, Hr, Hf⟩ Hk
  iapply (wp_load_rect 𝒱₀ (c : Thread nD τ) none Set.univ (k := k) (m := Memref.whole cc0_scratch3) (S := Finset.univ) (q := fullShare) (f := WG w n f)
    (r := Rect.unit (s := S8x4096x512) o S1x4096x512.size inb) (Finset.subset_univ _)) $$ [Hf]
  · iexact Hf
  iintro Hf
  rw [cast_read w h1 h2 f ht ho]
  iapply Hk
  isplitl [HA]; · iexact HA
  isplitl [HB]; · iexact HB
  isplitl [Hr] <;> iassumption

/-- Before trip `n`: the gathered rows, the weight ring `8` tiles ahead, the output ring, nothing owed. -/
def LI (f : Vec F S8x4096x512 .fp8e4m3) (n : ℕ) : sProp 𝕄 :=
  iprop(pt c cc0_scratch1 Finset.univ g ∗ Conv w c f (min (n + 8) 16) ∗ Out w c sx sw g f₀ n ∗ ows c 0)

set_option maxHeartbeats 1000000 in
theorem loop_step (f) (v2 v328 c8 : BitVec 32) (t : Fin k0_t1_loop.trips) (u : Unit) :
    LI w c sx sw g f₀ f t.val ⊢ wp frame (wpE (defs₀ (F := F)) 𝒱₀ (c : Thread nD τ) none) Set.univ (k0_t1_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v328 c8 sx sw t u) (fun _ => LI w c sx sw g f₀ f (t.val + 1)) := by
  have ht : t.val < 16 := lt_of_lt_of_le t.isLt k0_t1_abs.2.1
  have h1 := cond1_iff t
  have h2 := cond2_iff t
  have h3 := cond3_iff t
  unfold k0_t1_body
  simp only [semSignalWord, semWaitWord, Prog.lift, Prog.bind_op, Prog.bind_ret, Prog.pure_eq_ret, wp_deviceId]
  refine wp_dite_share c
    (B := iprop(pt c cc0_scratch1 Finset.univ g ∗ Conv w c f (min (t.val + 8) 16) ∗ OutB w c sx sw g f₀ t.val ∗ ows c 0)) ?_ ?_ ?_
  · intro h
    unfold LI
    iintro ⟨Hg, HC, HO, Hw⟩ Hk
    iapply (out_wait w c sx sw g f₀ (n := t.val) (s := t.val % 2) rfl (h1.mp h) (out_sem (s := t.val % 2) (Nat.mod_lt _ (by decide)) (k0_off6_eq t))) $$ [HO Hw]
    · isplitl [HO] <;> iassumption
    iintro ⟨HO, Hw⟩
    iapply Hk
    isplitl [Hg]; · iexact Hg
    isplitl [HC]; · iexact HC
    isplitl [HO] <;> iassumption
  · intro h
    unfold LI
    iintro ⟨Hg, HC, HO, Hw⟩
    isplitl [Hg]; · iexact Hg
    isplitl [HC]; · iexact HC
    isplitl [HO]
    · iapply (out_first w c sx sw g f₀ (n := t.val) (by by_contra h'; exact h (h1.mpr (by omega)))) $$ HO
    iexact Hw
  iintro ⟨Hg, HC, HO, Hw⟩
  iapply (load_g c g rfl) $$ Hg
  iintro Hg
  iapply (cast_load w c f (t := t.val) (s := t.val % 8) rfl (by omega) (by omega) ht (k0_off9_eq t)) $$ HC
  iintro HC
  iapply (out_dead w c sx sw g f₀ (n := t.val) (s := t.val % 2) rfl (k0_off10_eq t)) $$ HO
  iintro %vd HO
  iapply (out_store w c sx sw g f₀ (n := t.val) (s := t.val % 2) rfl (k0_off10_eq t) (v := k0_pay12 sx sw g (W8 w t.val)) rfl) $$ HO
  iintro HO
  iapply (out_send w c sx sw g f₀ (n := t.val) (s := t.val % 2) rfl ht (k0_off13_eq t) (k0_off12_eq t)
    (out_sem (s := t.val % 2) (Nat.mod_lt _ (by decide)) (k0_off11_eq t))) $$ HO
  iintro HO
  unfold LI
  by_cases h : k0_cond2 t = 1#1
  · have h8 := h2.mp h
    rw [dif_pos h, show min (t.val + 8) 16 = t.val + 8 by omega, show min (t.val + 1 + 8) 16 = t.val + 8 + 1 by omega]
    iapply (conv_tile w c f (n := t.val + 8) (s := t.val % 2) (s' := t.val % 8) (by omega) (by omega) h8 (k0_off17_eq t) (k0_off18_eq t)
      (copy_sem (s := t.val % 2) (Nat.mod_lt _ (by decide)) (k0_off14_eq t)) (p := k0_pay13) rfl) $$ [HC Hw]
    · isplitl [HC] <;> iassumption
    iintro ⟨HC, Hw⟩
    by_cases h' : k0_cond3 t = 1#1
    · have h10 := h3.mp h'
      rw [dif_pos h']
      iapply (start_next w c f (n := t.val + 8) (s := t.val % 2) (by omega) (by omega) (k0_off20_eq t)
        ((k0_off21_eq t).trans (by rw [show 512 * t.val + 5120 = 512 * (t.val + 8 + 2) by omega]))
        (copy_sem (s := t.val % 2) (Nat.mod_lt _ (by decide)) (k0_off19_eq t))) $$ HC
      iintro HC
      rw [wp_ret]; imodintro
      isplitl [Hg]; · iexact Hg
      isplitl [HC]; · iexact HC
      isplitl [HO] <;> iassumption
    · rw [dif_neg h', wp_ret]; imodintro
      isplitl [Hg]; · iexact Hg
      isplitl [HC]
      · iapply (start_none w c f (n := t.val + 8) (by by_contra h''; exact h' (h3.mpr (by omega))) h8) $$ HC
      isplitl [HO] <;> iassumption
  · have h8 : 16 ≤ t.val + 8 := by by_contra h'; exact h (h2.mpr (by omega))
    rw [dif_neg h, wp_ret, show min (t.val + 8) 16 = 16 by omega, show min (t.val + 1 + 8) 16 = 16 by omega]; imodintro
    isplitl [Hg]; · iexact Hg
    isplitl [HC]; · iexact HC
    isplitl [HO] <;> iassumption

/-! ## The last wait, the scales, the loop, the last output tiles -/

/-- A scale, as the one-element buffer holds it. -/
def SV (s : F .f32) : Vec F S1 .f32 := fun _ => s

theorem out_last {Q : α → sProp 𝕄} {s : ℕ} (hs : s = 1) {o : Fin 3 → ℕ} {o' : Fin 2 → ℕ} {inb inb'}
    {sm : DmaSem sig} (hm : sm = dq (5 + s)) {hdst : (oV o' inb').view.WordExact} {hsrc : (otV o inb).view.WordExact}
    {k : PUnit → Prog (TpuEff nD τ sig (Elt F) Λ₀ .tc) α} :
    iprop(OutB w c sx sw g f₀ 16 ∗ ows c 0)
      ⊢ iprop((iprop((OIdle (F := F) c 0 ∗ OIdle (F := F) c 1 ∗ pt c main_v1 Finset.univ (OUT w sx sw g)) ∗ ows c 0) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm (otV o inb) (oV o' inb') hsrc hdst) k) Q) := by
  subst hm; subst hs
  have hd : Disjoint (RestB 16) (cut (s := S512x8192) 1 512 15) := by
    rw [Finset.disjoint_left]; intro i hi h
    have := (Finset.mem_filter.mp hi).2
    rw [mem_cut] at h
    omega
  have hu : (Finset.univ : Finset S512x8192.Idx) = RestB 16 ∪ cut (s := S512x8192) 1 512 15 := by
    ext i
    refine ⟨fun _ => ?_, fun _ => Finset.mem_univ _⟩
    rw [Finset.mem_union, mem_cut, RestB, Finset.mem_filter]
    by_cases h : (i 1).val / 512 = 15
    · exact .inr h
    · exact .inl ⟨Finset.mem_univ _, by omega⟩
  have e : (pt c main_v1 (RestB 16) (part w sx sw g f₀ 16) : sProp 𝕄) = pt c main_v1 (RestB 16) (OUT w sx sw g) :=
    pointsTo_congr fun i hi => part_lt w sx sw g f₀ (by have : (i 1).val < 8192 := (i 1).isLt; omega)
  unfold OutB ows
  rw [OX, if_pos (by decide), OFly, e]
  iintro ⟨⟨HI, HF, Hr⟩, %W, HO⟩ Hk
  iapply (wp_waitLocal EC 𝒱₀ (c : Thread nD τ) none () (N := NO) rfl) $$ [HF HO]
  · isplitl [HF] <;> iassumption
  unfold OData
  iintro ⟨⟨Ho, Ht⟩, Hv, HO⟩
  iapply Hk
  isplitr [HO]
  · isplitl [HI]; · iexact HI
    isplitl [Hv Ht]
    · unfold OIdle
      isplitl [Hv]; · iexact Hv
      iexists _; iexact Ht
    rw [hu]
    iapply (pointsTo_union hd).2
    isplitl [Hr] <;> iassumption
  iexists _; iexact HO

theorem sx_load {Q : α → sProp 𝕄} {inb} {h1 : (Rect.unit (s := S1) ![0] S1.size inb).shape.numel = 1} {hp : EltTy.f32.packing = 1}
    {k : F .f32 → Prog (TpuEff nD τ sig (Elt F) Λ₀ .tc) α} :
    pt c cc0_stg1_0 Finset.univ (SV sx) ⊢ iprop((pt c cc0_stg1_0 Finset.univ (SV sx) -∗ wp frame (wpE (defs₀ (F := F)) 𝒱₀ (c : Thread nD τ) none) Set.univ (k sx) Q)
      -∗ wp frame (wpE (defs₀ (F := F)) 𝒱₀ (c : Thread nD τ) none) Set.univ (smemLoad (Memref.whole cc0_stg1_0) (Rect.unit (s := S1) ![0] S1.size inb) h1 hp >>= k) Q) := by
  rw [wp_bind]
  unfold smemLoad
  iintro H Hk
  iapply (wp_smemLoadElt 𝒱₀ (c : Thread nD τ) none Set.univ (m := Memref.whole cc0_stg1_0) (r := Rect.unit (s := S1) ![0] S1.size inb)
    (S := Finset.univ) (q := fullShare) (f := SV sx) (Finset.subset_univ _)) $$ [H]
  · iexact H
  iintro H
  rw [wp_ret]; imodintro
  iapply Hk; iexact H

theorem sw_load {Q : α → sProp 𝕄} {inb} {h1 : (Rect.unit (s := S1) ![0] S1.size inb).shape.numel = 1} {hp : EltTy.f32.packing = 1}
    {k : F .f32 → Prog (TpuEff nD τ sig (Elt F) Λ₀ .tc) α} :
    pt c cc0_stg2_0 Finset.univ (SV sw) ⊢ iprop((pt c cc0_stg2_0 Finset.univ (SV sw) -∗ wp frame (wpE (defs₀ (F := F)) 𝒱₀ (c : Thread nD τ) none) Set.univ (k sw) Q)
      -∗ wp frame (wpE (defs₀ (F := F)) 𝒱₀ (c : Thread nD τ) none) Set.univ (smemLoad (Memref.whole cc0_stg2_0) (Rect.unit (s := S1) ![0] S1.size inb) h1 hp >>= k) Q) := by
  rw [wp_bind]
  unfold smemLoad
  iintro H Hk
  iapply (wp_smemLoadElt 𝒱₀ (c : Thread nD τ) none Set.univ (m := Memref.whole cc0_stg2_0) (r := Rect.unit (s := S1) ![0] S1.size inb)
    (S := Finset.univ) (q := fullShare) (f := SV sw) (Finset.subset_univ _)) $$ [H]
  · iexact H
  iintro H
  rw [wp_ret]; imodintro
  iapply Hk; iexact H

/-- All seven blocks in: the gathered rows whole. -/
theorem gathered : iprop(pt c cc0_scratch1 (cut (s := S512x4096) 1 512 c.val) (XG x c) ∗ bigSep (Finset.range 7) (recvPay x c))
    = (pt c cc0_scratch1 Finset.univ (XG x c) : sProp 𝕄) := by
  rw [xg_split c (XG x c), range_flip (recvPay x c)]
  have h : (bigSep (Finset.range 7) fun s => recvPay x c (6 - s))
      = bigSep (Finset.range 7) fun s => pt c cc0_scratch1 (cut (s := S512x4096) 1 512 (rot (s + 1) c).val) (XG x c) :=
    bigSep_congr fun s hs => by
      have : s < 7 := Finset.mem_range.mp hs
      unfold recvPay
      rw [show 7 - (6 - s) = s + 1 by omega]
  rw [h]

theorem part13 {Q v2 v328 c8} (f) :
    iprop((RecvS x K c 6 ∗ pt c cc0_scratch1 (cut (s := S512x4096) 1 512 c.val) (XG x c)) ∗ Conv w c f 8 ∗ Out w c sx sw (XG x c) f₀ 0
      ∗ pt c cc0_stg1_0 Finset.univ (SV sx) ∗ pt c cc0_stg2_0 Finset.univ (SV sw))
    ⊢ iprop((iprop((recs x K ∗ ows c 0 ∗ (bigSep (Finset.range 7) fun s => semVal (recvCell c s) 0) ∗ pt c cc0_scratch1 Finset.univ (XG x c)) ∗ Conv w c f 16
        ∗ (OIdle (F := F) c 0 ∗ OIdle (F := F) c 1 ∗ pt c main_v1 Finset.univ (OUT w sx sw (XG x c)))
        ∗ pt c cc0_stg1_0 Finset.univ (SV sx) ∗ pt c cc0_stg2_0 Finset.univ (SV sw)) -∗ Q ⟨⟩)
      -∗ wp frame (wpE (defs₀ (F := F)) 𝒱₀ (c : Thread nD τ) none) Set.univ (k0_part13 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v328 c8) Q) := by
  rw [k0_part13_eq_skeleton]; unfold k0_part13_skel
  simp only [semSignalWord, semWaitWord, Prog.lift, Prog.bind_op, Prog.bind_ret, Prog.pure_eq_ret, wp_deviceId]
  iintro ⟨⟨H, Hg⟩, HC, HO, H1, H2⟩ Hk
  iapply (recv_step x K c (j := 6) (by decide) (recv_sem (s := 6) (by decide) rfl)) $$ H; iintro H
  iapply (sx_load c sx) $$ H1; iintro H1
  iapply (sw_load c sw) $$ H2; iintro H2
  unfold RecvS
  icases H with ⟨HR, Hw, -, H⟩
  ihave H' := (Entails.of_eq (bigSep_sep' (Finset.range 7) (fun s => semVal (recvCell c s) 0) (recvPay x c))) $$ H
  icases H' with ⟨HV, HP⟩
  ihave Hx := (Entails.of_eq (gathered x c)) $$ [Hg HP]
  · isplitl [Hg] <;> iassumption
  iapply (Scf.wp_for_bind _ _ _ k0_t1_loop.lb k0_t1_loop.ub k0_t1_loop.st k0_t1_ok () _ (fun n _ => LI w c sx sw (XG x c) f₀ f n)
    (fun t u => loop_step w c sx sw (XG x c) f₀ f v2 v328 c8 t u)) $$ [Hx HC HO Hw]
  · unfold LI
    isplitl [Hx]; · iexact Hx
    isplitl [HC]; · iexact HC
    isplitl [HO] <;> iassumption
  iintro %u HL
  have e : Scf.trips k0_t1_loop.lb k0_t1_loop.ub k0_t1_loop.st = 16 := by decide
  rw [e]
  unfold LI
  icases HL with ⟨Hx, HC, HO, Hw⟩
  iapply (out_wait w c sx sw (XG x c) f₀ (n := 16) (s := 0) rfl (by decide) (out_sem (s := 0) (by decide) rfl)) $$ [HO Hw]
  · isplitl [HO] <;> iassumption
  iintro H
  iapply (out_last w c sx sw (XG x c) f₀ (s := 1) rfl (out_sem (s := 1) (by decide) rfl)) $$ H
  iintro ⟨HO, Hw⟩
  rw [wp_ret]; imodintro
  iapply Hk
  isplitl [HR Hw HV Hx]
  · isplitl [HR]; · iexact HR
    isplitl [Hw]; · iexact Hw
    isplitl [HV] <;> iassumption
  isplitl [HC]; · iexact HC
  isplitl [HO]; · iexact HO
  isplitl [H1] <;> iassumption

end Cert.A2A

end
-- ==== Proof.Sound.lean ====
/-
# The all-to-all product: the body from its first step to its last
-/
module

public import proofs.«01_k».proof.Proof.Body

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx (ix2 ix3 eq_ix2 eq_ix3)
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (x : Dev nD → Vec F S4096x512 .f32) (K : Dev nD × Fin 15 → ℕ) (w : Vec F S4096x8192 .f32) (c : Dev nD)
variable (sx sw : F .f32) (f₀ : Vec F S512x8192 .f32)

/-- A scale, as the one-element buffer holds it: its two staging buffers and the staged `x`. -/
def Stg : sProp 𝕄 :=
  iprop(pt c cc0_stg0_0 Finset.univ (x c) ∗ pt c cc0_stg1_0 Finset.univ (SV sx) ∗ pt c cc0_stg2_0 Finset.univ (SV sw))
/-- The five scratch buffers, at any contents. -/
def Scr : sProp 𝕄 :=
  iprop((∃ f, pt c cc0_scratch0 Finset.univ f) ∗ (∃ f, pt c cc0_scratch1 Finset.univ f) ∗ (∃ f, pt c cc0_scratch2 Finset.univ f)
    ∗ (∃ f, pt c cc0_scratch3 Finset.univ f) ∗ ∃ f, pt c cc0_scratch4 Finset.univ f)
/-- The four staging semaphores of the weight and output rings, at rest. -/
def Loc4 : sProp 𝕄 :=
  iprop(semVal (copyCell c 0) 0 ∗ semVal (copyCell c 1) 0 ∗ semVal (outCell c 0) 0 ∗ semVal (outCell c 1) 0)
/-- The rights to pay a device starts with: seven barrier duties, its sends' and their arrivals'. -/
def Toks : sProp 𝕄 :=
  iprop((bigSep (Finset.range 7) fun s => dutyTok ER (barCell (rot (s + 1) c)) 0 s)
    ∗ (bigSep (Finset.range 7) fun s => dutyTok ER (sendCell c s) 0 0)
    ∗ bigSep (Finset.range 7) fun s => dutyTok ER (recvCell (rot (s + 1) c) s) 0 0)
/-- The positions in its own cells, and the credit to wait on them. -/
def Wts : sProp 𝕄 :=
  iprop((atPos ER (barCell c) 0 ∅ 0 ∗ cred (tallyAt (barCell c) () 7))
    ∗ (bigSep (Finset.range 7) fun s => atPos ER (sendCell c s) 0 ∅ 0)
    ∗ bigSep (Finset.range 7) fun s => iprop(atPos ER (recvCell c s) 0 ∅ 0 ∗ cred (tallyAt (recvCell c s) () N)))
/-- Every cell of the schedule back at zero. -/
def Zer : sProp 𝕄 :=
  iprop(semVal (barCell c) 0 ∗ (bigSep (Finset.range 7) fun s => semVal (sendCell c s) 0) ∗ bigSep (Finset.range 7) fun s => semVal (recvCell c s) 0)

/-- What the signals hand over, and the block kept. -/
theorem give_start : iprop((∃ f, pt c cc0_scratch1 Finset.univ f) ∗ bigSep (Finset.range 7) fun s => dutyTok ER (barCell (rot (s + 1) c)) 0 s)
    ⊢ (iprop((∃ f, pt c cc0_scratch1 (cut (s := S512x4096) 1 512 c.val) f) ∗ bigSep (Finset.Ico 0 7) (sigGive (F := F) c)) : sProp 𝕄) := by
  iintro ⟨⟨%f, H⟩, Ht⟩
  ihave H2 := (Entails.of_eq (xg_split c f)) $$ H
  icases H2 with ⟨H0, H⟩
  isplitl [H0]
  · iexists f; iexact H0
  rw [ico_range]
  have hp : ∀ s, iprop(dutyTok ER (barCell (rot (s + 1) c)) 0 s
      ∗ pt c cc0_scratch1 (cut (s := S512x4096) 1 512 (rot (s + 1) c).val) f) ⊢ (sigGive (F := F) c s : sProp 𝕄) := fun s => by
    unfold sigGive
    iintro ⟨Ht, H⟩
    isplitl [Ht]; · iexact Ht
    iexists f; iexact H
  have h : iprop((bigSep (Finset.range 7) fun s => dutyTok ER (barCell (rot (s + 1) c)) 0 s)
      ∗ bigSep (Finset.range 7) fun s => pt c cc0_scratch1 (cut (s := S512x4096) 1 512 (rot (s + 1) c).val) f)
      ⊢ (bigSep (Finset.range 7) (sigGive (F := F) c) : sProp 𝕄) :=
    (Entails.of_eq (bigSep_sep' _ _ _).symm).trans (bigSep_mono fun s _ => hp s)
  iapply h
  isplitl [Ht] <;> iassumption

theorem send_start : iprop((bigSep (Finset.range 7) fun s => dutyTok ER (sendCell c s) 0 0)
      ∗ (bigSep (Finset.range 7) fun s => dutyTok ER (recvCell (rot (s + 1) c) s) 0 0)
      ∗ (bigSep (Finset.range 7) (barPay (F := F) c)) ∗ pt c cc0_scratch0 Finset.univ (XF x c))
    ⊢ (iprop(pt c cc0_scratch0 (cut (s := S4096x512) 0 512 c.val) (XF x c) ∗ bigSep (Finset.Ico 0 7) (sendGive x c)) : sProp 𝕄) := by
  have hb : (bigSep (Finset.range 7) (barPay (F := F) c))
      = bigSep (Finset.range 7) fun s => iprop(∃ f, pt (rot (s + 1) c) cc0_scratch1 (cut (s := S512x4096) 1 512 c.val) f) :=
    (range_flip _).trans (bigSep_congr fun s hs => by
      have : s < 7 := Finset.mem_range.mp hs
      unfold barPay
      rw [show 7 - (6 - s) = s + 1 by omega])
  rw [xf_split c (XF x c), hb, ico_range]
  have hs : (bigSep (Finset.range 7) (sendGive x c)) = iprop((bigSep (Finset.range 7) fun s => dutyTok ER (sendCell c s) 0 0)
      ∗ (bigSep (Finset.range 7) fun s => dutyTok ER (recvCell (rot (s + 1) c) s) 0 0)
      ∗ (bigSep (Finset.range 7) fun s => pt c cc0_scratch0 (cut (s := S4096x512) 0 512 (rot (s + 1) c).val) (XF x c))
      ∗ bigSep (Finset.range 7) fun s => iprop(∃ f, pt (rot (s + 1) c) cc0_scratch1 (cut (s := S512x4096) 1 512 c.val) f)) := by
    unfold sendGive
    rw [bigSep_sep', bigSep_sep', bigSep_sep']
  rw [hs]
  iintro ⟨H1, H2, H3, H4, H5⟩
  isplitl [H4]; · iexact H4
  isplitl [H1]; · iexact H1
  isplitl [H2]; · iexact H2
  isplitl [H5] <;> iassumption

/-- All seven blocks sent are back: the cast `x` whole. -/
theorem xf_back : iprop(pt c cc0_scratch0 (cut (s := S4096x512) 0 512 c.val) (XF x c) ∗ bigSep (Finset.range 7) (sendPay x c))
    ⊢ (iprop(∃ f, pt c cc0_scratch0 Finset.univ f) : sProp 𝕄) := by
  iintro H
  iexists (XF x c)
  rw [xf_split c (XF x c)]
  iexact H

theorem conv_end (f) : Conv w c f 16 ⊢ iprop((semVal (copyCell c 0) 0 ∗ semVal (copyCell c 1) 0) ∗ (∃ f, pt c cc0_scratch2 Finset.univ f)
    ∗ pt c main_arg1 Finset.univ w ∗ ∃ f, pt c cc0_scratch3 Finset.univ f) := by
  have hu : Rest 16 = Finset.univ := by
    ext i
    refine ⟨fun _ => Finset.mem_univ _, fun _ => Finset.mem_filter.mpr ⟨Finset.mem_univ _, ?_⟩⟩
    have : (i 1).val < 8192 := (i 1).isLt
    omega
  unfold Conv CF
  rw [if_neg (by decide), if_neg (by decide), hu]
  show iprop(CIdle c 0 ∗ CIdle c 1 ∗ _) ⊢ _
  unfold CIdle
  iintro ⟨⟨Hv0, %f0, Ht0⟩, ⟨Hv1, %f1, Ht1⟩, Hw, Hf⟩
  isplitl [Hv0 Hv1]
  · isplitl [Hv0] <;> iassumption
  isplitl [Ht0 Ht1]
  · iapply (wt_join c f0)
    isplitl [Ht0]
    · iexists f0; iexact Ht0
    · iexists f1; iexact Ht1
  isplitl [Hw]; · iexact Hw
  iexists _; iexact Hf

theorem out_end : iprop(OIdle (F := F) c 0 ∗ OIdle (F := F) c 1)
    ⊢ iprop((semVal (outCell c 0) 0 ∗ semVal (outCell c 1) 0) ∗ ∃ f, pt c cc0_scratch4 Finset.univ f) := by
  unfold OIdle
  iintro ⟨⟨Hv0, %f0, Ht0⟩, ⟨Hv1, %f1, Ht1⟩⟩
  isplitl [Hv0 Hv1]
  · isplitl [Hv0] <;> iassumption
  iapply (ot_join c f0)
  isplitl [Ht0]
  · iexists f0; iexact Ht0
  · iexists f1; iexact Ht1

theorem out_start : iprop(OIdle (F := F) c 0 ∗ OIdle (F := F) c 1 ∗ pt c main_v1 Finset.univ f₀) ⊢ Out w c sx sw (XG x c) f₀ 0 := by
  have hu : RestO 0 = Finset.univ := by
    ext i
    exact ⟨fun _ => Finset.mem_univ _, fun _ => Finset.mem_filter.mpr ⟨Finset.mem_univ _, by omega⟩⟩
  have hp : part w sx sw (XG x c) f₀ 0 = f₀ := by
    funext i; unfold part; exact if_neg (by omega)
  unfold Out OX
  rw [if_neg (by decide), if_neg (by decide), hu, hp]

theorem conv_start (f) : iprop(CF w c 0 ∗ CF w c 1 ∗ pt c main_arg1 (Rest 0) w ∗ pt c cc0_scratch3 Finset.univ f) ⊢ Conv w c f 0 := by
  have hf : WG w 0 f = f := by
    funext i; unfold WG; rw [if_neg (by omega), if_neg (by omega)]
  unfold Conv
  rw [hf]

/-- THE BODY at device `c`: from the rights and positions it starts with to every cell at zero, with the result in place. -/
theorem sound_body :
    iprop((recs x K ∗ ows c (owedB c 0) ∗ levAts L lv) ∗ Toks (F := F) c ∗ Wts (F := F) c ∗ Loc4 (F := F) c ∗ Scr (F := F) c
      ∗ (pt c main_arg1 Finset.univ w ∗ pt c main_v1 Finset.univ f₀) ∗ Stg x c sx sw)
    ⊢ wp frame (wpE (defs₀ (F := F)) 𝒱₀ (c : Thread nD τ) none) Set.univ (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => iprop(ows c 0 ∗ Zer (F := F) c ∗ Loc4 (F := F) c ∗ Scr (F := F) c
      ∗ (pt c main_arg1 Finset.univ w ∗ pt c main_v1 Finset.univ (OUT w sx sw (XG x c))) ∗ Stg x c sx sw)) := by
  rw [cc0_body_eq_skeleton]; unfold cc0_body_skel
  simp only [wp_bind]
  unfold Toks Wts Loc4 Scr Stg Zer
  iintro ⟨⟨#HR, HO, #HL⟩, ⟨HT1, HT2, HT3⟩, ⟨⟨HA1, HA2⟩, HAS, HAR⟩, ⟨HS1, HS2, HS3, HS4⟩, ⟨HB0, HB1, HB2, HB3, HB4⟩, ⟨Hw, Hv⟩, ⟨Hx, H1, H2⟩⟩
  ihave HG := (give_start c) $$ [HB1 HT1]
  · isplitl [HB1] <;> iassumption
  icases HG with ⟨Hown, HG⟩
  ihave HW2 := (wt_split c) $$ HB2
  icases HW2 with ⟨HW20, HW21⟩
  ihave HW4 := (ot_split c) $$ HB4
  icases HW4 with ⟨HW40, HW41⟩
  icases HB3 with ⟨%f3, HB3⟩
  iapply (part1 x K c) $$ [HO HG]
  · unfold SigS
    isplitr; · iexact HR
    isplitl [HO] <;> iassumption
  iintro %v2 %v24 %v8 H
  dsimp only
  iapply (part2 x K w c) $$ [H HA1 HA2 HS1 HS2 HW20 HW21 Hw Hx HB0]
  · isplitl [H]; · iexact H
    isplitl [HA1 HA2]
    · isplitl [HA1]; · iexact HA1
      isplitl [HA2]; · iexact HA2
      iexact HL
    isplitl [HS1 HS2 HW20 HW21 Hw]
    · unfold CIdle
      isplitl [HS1 HW20]; · isplitl [HS1] <;> iassumption
      isplitl [HS2 HW21]; · isplitl [HS2] <;> iassumption
      iexact Hw
    isplitl [Hx]; · iexact Hx
    iexact HB0
  iintro ⟨⟨-, HO, Hbar, HP⟩, ⟨HC0, HC1, Hw⟩, Hx, Hxf⟩
  ihave HSd := (send_start x c) $$ [HT2 HT3 HP Hxf]
  · isplitl [HT2]; · iexact HT2
    isplitl [HT3]; · iexact HT3
    isplitl [HP] <;> iassumption
  icases HSd with ⟨Hxo, HSd⟩
  iapply (part3 x K c) $$ [Hown HO HSd]
  · isplitl [Hown]; · iexact Hown
    unfold SendS
    rw [Finset.range_zero, bigSep_empty]
    isplitr; · iexact HR
    isplitl [HO]; · iexact HO
    isplitl [HSd]; · iexact HSd
    iempintro
  iintro %v81 ⟨Hown, H⟩
  iapply (part4 x K c) $$ H; iintro H
  iapply (part5 x K c) $$ H; iintro H
  unfold SendS
  icases H with ⟨-, HO, -, HCr⟩
  rw [owedR_end]
  ihave HCv := (conv_start w c f3) $$ [HC0 HC1 Hw HB3]
  · isplitl [HC0]; · iexact HC0
    isplitl [HC1]; · iexact HC1
    isplitl [Hw] <;> iassumption
  iapply (part6 w c f3) $$ [HCv HO]
  · isplitl [HCv] <;> iassumption
  iintro H
  iapply (part7 w c f3) $$ H; iintro H
  iapply (part8 w c f3) $$ H; iintro H
  iapply (part9 w c f3) $$ H; iintro H
  iapply (part10 w c f3) $$ H; iintro ⟨HCv, HO⟩
  iapply (part11 x K c) $$ [HO HAR]
  · unfold RecvS
    rw [Finset.range_zero, bigSep_empty, ico_range]
    isplitr; · iexact HR
    isplitl [HO]; · iexact HO
    isplitl [HAR]; · iexact HAR
    iempintro
  iintro H
  iapply (part12 x K c) $$ H; iintro %v H
  ihave HOu := (out_start x w c sx sw f₀) $$ [HS3 HS4 HW40 HW41 Hv]
  · unfold OIdle
    isplitl [HS3 HW40]; · isplitl [HS3] <;> iassumption
    isplitl [HS4 HW41]; · isplitl [HS4] <;> iassumption
    iexact Hv
  iapply (part13 x K w c sx sw f₀ f3) $$ [H Hown HCv HOu H1 H2]
  · isplitl [H Hown]; · isplitl [H] <;> iassumption
    isplitl [HCv]; · iexact HCv
    isplitl [HOu]; · iexact HOu
    isplitl [H1] <;> iassumption
  iintro ⟨⟨-, HO, HRv, Hxg⟩, HCv, ⟨HO0, HO1, Hv⟩, H1, H2⟩
  iapply (part14 x K c) $$ [HO HAS HCr]
  · unfold DoneS
    rw [Finset.range_zero, bigSep_empty, ico_range, bigSep_sep']
    isplitr; · iexact HR
    isplitl [HO]; · iexact HO
    isplitl [HAS HCr]; · isplitl [HAS] <;> iassumption
    iempintro
  iintro H
  simp only [Prog.lift, Prog.pure_eq_ret]
  iapply (done_step x K c (j := 6) (by decide) (send_sem (s := 6) (by decide) rfl)) $$ H; iintro H
  unfold DoneS
  rw [bigSep_sep' (Finset.range 7)]
  icases H with ⟨-, HO, -, HSv, HSp⟩
  ihave Hxf := (xf_back x c) $$ [Hxo HSp]
  · isplitl [Hxo] <;> iassumption
  ihave HCe := (conv_end w c f3) $$ HCv
  icases HCe with ⟨⟨HS1, HS2⟩, HB2, Hw, HB3⟩
  ihave HOe := (out_end c) $$ [HO0 HO1]
  · isplitl [HO0] <;> iassumption
  icases HOe with ⟨⟨HS3, HS4⟩, HB4⟩
  rw [wp_ret]; imodintro
  rw [wp_ret]; imodintro
  isplitl [HO]; · iexact HO
  isplitl [Hbar HSv HRv]
  · isplitl [Hbar]; · iexact Hbar
    isplitl [HSv] <;> iassumption
  isplitl [HS1 HS2 HS3 HS4]
  · isplitl [HS1]; · iexact HS1
    isplitl [HS2]; · iexact HS2
    isplitl [HS3] <;> iassumption
  isplitl [Hxf Hxg HB2 HB3 HB4]
  · isplitl [Hxf]; · iexact Hxf
    isplitl [Hxg]; · iexists _; iexact Hxg
    isplitl [HB2]; · iexact HB2
    isplitl [HB3] <;> iassumption
  isplitl [Hw Hv]
  · isplitl [Hw] <;> iassumption
  isplitl [Hx]; · iexact Hx
  isplitl [H1] <;> iassumption

end Cert.A2A

end
-- ==== Proof.Setup.lean ====
/-
# The all-to-all product: the shared cells, the tokens and the credit at the launch
-/
module

public import proofs.«01_k».proof.Proof.Sound

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx (ix2 ix3 eq_ix2 eq_ix3)
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

/-! ## Families over an initial part of the naturals -/

section Ranges
variable {M : Type} [URA M]

theorem fin_range (n : ℕ) (Φ : ℕ → sProp M) : bigSep Finset.univ (fun k : Fin n => Φ k.val) = bigSep (Finset.range n) Φ := by
  have h : Finset.range n = (Finset.univ : Finset (Fin n)).map Fin.valEmbedding := by
    ext a
    simp only [Finset.mem_range, Finset.mem_map, Finset.mem_univ, true_and]
    exact ⟨fun h => ⟨⟨a, h⟩, rfl⟩, fun ⟨b, hb⟩ => hb ▸ b.isLt⟩
  rw [h, bigSep_map]; rfl

theorem range_add (a b : ℕ) (Φ : ℕ → sProp M) :
    bigSep (Finset.range (a + b)) Φ = iprop(bigSep (Finset.range a) Φ ∗ bigSep (Finset.range b) fun i => Φ (a + i)) := by
  rw [Finset.range_add_eq_union]
  refine (bigSep_union (Finset.disjoint_left.mpr fun i hi hj => ?_)).trans (by rw [bigSep_map]; rfl)
  obtain ⟨j, -, rfl⟩ := Finset.mem_map.mp hj
  have h : a + j < a := Finset.mem_range.mp hi
  omega

theorem range_succ_bot (b : ℕ) (Φ : ℕ → sProp M) :
    bigSep (Finset.range (1 + b)) Φ = iprop(Φ 0 ∗ bigSep (Finset.range b) fun i => Φ (1 + i)) := by
  rw [range_add, Finset.range_one, bigSep_singleton]

theorem around (Φ : Dev nD → ℕ → sProp M) :
    (bigSep Finset.univ fun c : Dev nD => bigSep (Finset.range 7) fun s => Φ c s)
      = bigSep Finset.univ fun c : Dev nD => bigSep (Finset.range 7) fun s => Φ (rot (s + 1) c) s := by
  have h (Ψ : Dev nD → ℕ → sProp M) : (bigSep Finset.univ fun c : Dev nD => bigSep (Finset.range 7) fun s => Ψ c s)
      = bigSep (Finset.range 7) fun s => bigSep Finset.univ fun c : Dev nD => Ψ c s := by
    rw [← fin_range 7 fun s => bigSep Finset.univ fun c : Dev nD => Ψ c s, ← bigSep_univ_comm]
    exact bigSep_congr fun c _ => (fin_range 7 (Ψ c)).symm
  rw [h, h fun c s => Φ (rot (s + 1) c) s]
  exact bigSep_congr fun s hs => bigSep_univ_equiv (rotEquiv (s + 1) (by have := Finset.mem_range.mp hs; omega)) (fun c => Φ c s)

end Ranges

/-! ## The cells -/

def csemN (k : ℕ) : SemLoc sig := if k = 0 then .reg barS else .dma (dq (6 + k))

theorem cells_split {M : Type} [URA M] (c : Dev nD) (Φ : GSem nD τ sig → sProp M) :
    bigSep Finset.univ (fun k : Fin 15 => Φ (kcell (c, k)))
      = iprop(Φ (barCell c) ∗ (bigSep (Finset.range 7) fun s => Φ (sendCell c s)) ∗ bigSep (Finset.range 7) fun s => Φ (recvCell c s)) := by
  have h1 (s : ℕ) : csemN (1 + s) = .dma (dq (7 + s)) := by
    unfold csemN; rw [if_neg (by omega), show 6 + (1 + s) = 7 + s by omega]
  have h2 (s : ℕ) : csemN (1 + (7 + s)) = .dma (dq (14 + s)) := by
    rw [h1, show 7 + (7 + s) = 14 + s by omega]
  rw [show bigSep Finset.univ (fun k : Fin 15 => Φ (kcell (c, k))) = bigSep (Finset.range (1 + (7 + 7))) (fun n => Φ ((c : Thread nD τ), csemN n))
    from fin_range 15 fun n => Φ ((c : Thread nD τ), csemN n), range_succ_bot, range_add]
  simp only [h1, h2]
  rfl

/-- The kernel's own semaphores. -/
def osem (k : Fin 18) : SemLoc sig := .dma (dq (3 + k.val))

omit [FloatOps F] in
theorem own_split (c : Dev nD) :
    (Pipeline.ownSems0 (Ix := Unit) (Name := ℕ) (U := UU) (Lvl := ℕ) (Val := Elt F) (τ := τ) osem c : sProp 𝕄)
      = iprop(semVal (copyCell c 0) 0 ∗ semVal (copyCell c 1) 0 ∗ semVal (outCell c 0) 0 ∗ semVal (outCell c 1) 0
          ∗ (bigSep (Finset.range 7) fun s => semVal (sendCell c s) 0) ∗ bigSep (Finset.range 7) fun s => semVal (recvCell c s) 0) := by
  have h1 (s : ℕ) : 3 + (1 + (1 + (1 + (1 + s)))) = 7 + s := by omega
  have h2 (s : ℕ) : 7 + (7 + s) = 14 + s := by omega
  rw [show (Pipeline.ownSems0 (Ix := Unit) (Name := ℕ) (U := UU) (Lvl := ℕ) (Val := Elt F) (τ := τ) osem c : sProp 𝕄)
      = bigSep (Finset.range (1 + (1 + (1 + (1 + (7 + 7)))))) (fun n => semVal ((c : Thread nD τ), .dma (dq (3 + n))) 0)
    from fin_range 18 fun n => (semVal ((c : Thread nD τ), .dma (dq (3 + n))) 0 : sProp 𝕄),
    range_succ_bot, range_succ_bot, range_succ_bot, range_succ_bot, range_add]
  simp only [h1, h2]

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

theorem csem_injective : Function.Injective csem := by decide

theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-! ## The tokens -/

def tsem (j : ℕ) : SemLoc sig := if j < 7 then .reg barS else .dma (dq j)
def tdut (j : ℕ) : ℕ := if j < 7 then j else 0

/-- The duty tokens of a device's own cells: its barrier's seven, then one of each of the fourteen others. -/
def tokOf (cj : Dev nD × Fin 21) : GSem nD τ sig × ℕ × ℕ := (((cj.1 : Thread nD τ), tsem cj.2.val), 0, tdut cj.2.val)

theorem tok_injective : Function.Injective (fun j : Fin 21 => (tsem j.val, tdut j.val)) := by decide

theorem tokOf_injective : Function.Injective tokOf := by
  rintro ⟨c, j⟩ ⟨c', j'⟩ h
  have h1 : c = c' := congrArg (fun y : GSem nD τ sig × ℕ × ℕ => y.1.1.1) h
  have h2 : j = j' := tok_injective (congrArg (fun y : GSem nD τ sig × ℕ × ℕ => (y.1.2, y.2.2)) h)
  rw [h1, h2]

def ringToks : Finset (GSem nD τ sig × ℕ × ℕ) := Finset.univ.map ⟨tokOf, tokOf_injective⟩

def toks (c : Dev nD) : sProp 𝕄 :=
  iprop((bigSep (Finset.range 7) fun s => dutyTok ER (barCell c) 0 s) ∗ (bigSep (Finset.range 7) fun s => dutyTok ER (sendCell c s) 0 0)
    ∗ bigSep (Finset.range 7) fun s => dutyTok ER (recvCell c s) 0 0)

omit [FloatOps F] in
theorem toks_eq (c : Dev nD) :
    (bigSep Finset.univ fun j : Fin 21 => (dutyTok ER (tokOf (c, j)).1 (tokOf (c, j)).2.1 (tokOf (c, j)).2.2 : sProp 𝕄)) = toks c := by
  have h1 (s : ℕ) : tsem (7 + s) = .dma (dq (7 + s)) := if_neg (by omega)
  have h2 (s : ℕ) : tdut (7 + s) = 0 := if_neg (by omega)
  have h3 (s : ℕ) : 7 + (7 + s) = 14 + s := by omega
  rw [show (bigSep Finset.univ fun j : Fin 21 => (dutyTok ER (tokOf (c, j)).1 (tokOf (c, j)).2.1 (tokOf (c, j)).2.2 : sProp 𝕄))
      = bigSep (Finset.range (7 + (7 + 7))) (fun n => dutyTok ER ((c : Thread nD τ), tsem n) 0 (tdut n))
    from fin_range 21 fun n => (dutyTok ER ((c : Thread nD τ), tsem n) 0 (tdut n) : sProp 𝕄), range_add, range_add]
  simp only [h1, h2, h3]
  rw [show (bigSep (Finset.range 7) fun n => (dutyTok ER ((c : Thread nD τ), tsem n) 0 (tdut n) : sProp 𝕄))
      = bigSep (Finset.range 7) fun s => dutyTok ER (barCell c) 0 s from bigSep_congr fun s hs => by
        unfold tsem tdut; rw [if_pos (Finset.mem_range.mp hs), if_pos (Finset.mem_range.mp hs)]]
  rfl

omit [FloatOps F] in
theorem toks_around : (bigSep Finset.univ fun c : Dev nD => (toks c : sProp 𝕄)) = bigSep Finset.univ fun c : Dev nD => Toks c := by
  unfold toks Toks
  rw [bigSep_sep', bigSep_sep', bigSep_sep', bigSep_sep',
    around fun c s => (dutyTok ER (barCell c) 0 s : sProp 𝕄), around fun c s => (dutyTok ER (recvCell c s) 0 0 : sProp 𝕄)]

/-! ## The launch element and the global step -/

def u₀ : UU :=
  (initOf (Pipeline.cells cfgs cellOf_inj) (Pipeline.launchToks cfgs cellOf_inj), (initOf ringCells ringToks, 1))

omit [FloatOps F] in
theorem u_split : (ownU u₀ : sProp 𝕄)
    ⊢ iprop(BI.own (EP (initOf (Pipeline.cells cfgs cellOf_inj) (Pipeline.launchToks cfgs cellOf_inj))) ∗ BI.own (ER (initOf ringCells ringToks))) := by
  unfold u₀
  exact BI.own_op_elim ((uEmb (nD := nD) (sig := sig) (Ix := Unit) (Val := Elt F) (Name := ℕ) (U := UU) (Lvl := ℕ)).toEmb.op_of_mem
    (Prod.mk_mem_op (URA.mem_op_one _) (URA.mem_one_op _)))

section Ghost
variable (x : Dev nD → Vec F S4096x512 .f32)

def G (c : Dev nD) : sProp 𝕄 :=
  iprop((bigSep Finset.univ fun k : Fin 15 => roundState ER (ringRd x) (kcell (c, k)) 0)
    ∗ (bigSep Finset.univ fun k : Fin 15 => iprop(atPos ER (kcell (c, k)) 0 ∅ 0 ∗ reached ER (kcell (c, k)) 0)) ∗ toks c)

/-- What stays with device `c`: its positions, the tokens of the duties it pays, its own transfers' semaphores. -/
def linear (c : Dev nD) : sProp 𝕄 :=
  iprop((bigSep Finset.univ fun k : Fin 15 => atPos ER (kcell (c, k)) 0 ∅ 0) ∗ Toks c ∗ Loc4 c)

def G' (c : Dev nD) : sProp 𝕄 := iprop(∃ K, recs x K ∗ linear c)

theorem fund_ring : BI.own (ER (initOf ringCells ringToks)) ⊢ (|==> bigSep Finset.univ (G x) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun y => (dutyTok ER y.1 y.2.1 y.2.2 : sProp 𝕄)) = bigSep Finset.univ fun c : Dev nD => toks c := by
    unfold ringToks; rw [bigSep_map, bigSep_univ_prod]
    exact bigSep_congr fun c _ => toks_eq c
  iintro HX
  imod (Rounds.fund ER (ringRd x) ringCells ringToks) $$ HX with ⟨Hst, Hr, Hat, Htok⟩
  imodintro
  ihave Hst' := (Entails.of_eq (hX fun g => roundState ER (ringRd x) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ Loc4 c) : sProp 𝕄) := by
  rw [own_split, unscoped_eq, cells_split c fun g => (semVal g 0 : sProp 𝕄)]
  unfold Loc4
  iintro ⟨⟨H1, H2, H3, H4, HS, HV⟩, HB⟩
  isplitl [HS HV HB]
  · isplitl [HB]; · iexact HB
    isplitl [HS] <;> iassumption
  isplitl [H1]; · iexact H1
  isplitl [H2]; · iexact H2
  isplitl [H3] <;> iassumption

theorem core_alloc (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun k : Fin 15 => iprop(∃ κ : ℕ, cellInv ER (ringRd x) κ (kcell (c, k))))
          ∗ (bigSep Finset.univ fun k : Fin 15 => iprop(atPos ER (kcell (c, k)) 0 ∅ 0 ∗ reached ER (kcell (c, k)) 0)) ∗ toks c ∗ Loc4 c) := by
  unfold G
  iintro ⟨Hos, Hus, Hst, Hat, Htok⟩
  ihave Hv := (sems_split (F := F) c) $$ [Hos Hus]
  · isplitl [Hos] <;> iassumption
  icases Hv with ⟨Hv, H4⟩
  imod (show iprop((bigSep Finset.univ fun k : Fin 15 => semVal (kcell (c, k)) 0) ∗ bigSep Finset.univ fun k : Fin 15 => roundState ER (ringRd x) (kcell (c, k)) 0)
      ⊢ (|={Set.univ}=> bigSep Finset.univ fun k : Fin 15 => iprop(∃ κ : ℕ, cellInv ER (ringRd x) κ (kcell (c, k))) : sProp 𝕄) from by
        rw [← bigSep_sep']
        exact (bigSep_mono fun k _ => (Rounds.body_intro ER (ringRd x) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 15 → ℕ) (c : Dev nD) : iprop(recs x K ∗ linear c) ⊢ G' x c := by
  unfold G'
  iintro H
  iexists K
  iexact H

theorem regroup :
    (bigSep Finset.univ fun c : Dev nD => iprop((bigSep Finset.univ fun k : Fin 15 => iprop(∃ κ : ℕ, cellInv ER (ringRd x) κ (kcell (c, k))))
          ∗ (bigSep Finset.univ fun k : Fin 15 => iprop(atPos ER (kcell (c, k)) 0 ∅ 0 ∗ reached ER (kcell (c, k)) 0)) ∗ toks c ∗ Loc4 c) : sProp 𝕄)
      ⊢ bigSep Finset.univ (G' x) := by
  rw [bigSep_sep', bigSep_sep', bigSep_sep', ← bigSep_univ_prod (fun ck : Dev nD × Fin 15 => iprop(∃ κ : ℕ, cellInv ER (ringRd x) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄)), toks_around]
  iintro ⟨HI, ⟨Hat, #HR⟩, Htok, H4⟩
  ihave HK := (BI.bigSep_exists_pi Finset.univ (fun (ck : Dev nD × Fin 15) (κ : ℕ) => (cellInv ER (ringRd x) κ (kcell ck) : sProp 𝕄))) $$ HI
  icases HK with ⟨%K, #HI⟩
  iapply (with_persistent (R := recs x K) fun c _ => ghost_intro x K c)
  isplitr
  · unfold recs; isplitl; · iexact HI
    iexact HR
  · unfold linear
    rw [bigSep_sep', bigSep_sep']
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => core_alloc x c).trans (bigSep_fupd _ _)).trans (BI.fupd_mono (regroup x))

end Ghost

/-! ## The launch credit -/

theorem bar_eq_iff {a b : Dev nD} : Iff (barCell a = barCell b) (a = b) :=
  ⟨fun h => congrArg (fun g : GSem nD τ sig => g.1.1) h, fun h => h ▸ rfl⟩
theorem recv_eq_iff {a b : Dev nD} {s t : ℕ} (hs : s < 7) (ht : t < 7) : Iff (recvCell a s = recvCell b t) (a = b ∧ s = t) :=
  ⟨fun h => ⟨congrArg (fun g : GSem nD τ sig => g.1.1) h, by
      have h2 : (SemLoc.dma (dq (14 + s)) : SemLoc sig) = .dma (dq (14 + t)) := congrArg Prod.snd h
      have h3 : dq (14 + s) = dq (14 + t) := by injection h2
      have h4 := congrArg Fin.val h3
      rw [dq_val (by omega), dq_val (by omega)] at h4
      omega⟩, fun ⟨h1, h2⟩ => h1 ▸ h2 ▸ rfl⟩
theorem bar_ne_recv (a b : Dev nD) (s : ℕ) : barCell a ≠ recvCell b s := fun h => by
  have h2 : (SemLoc.reg barS : SemLoc sig) = .dma (dq (14 + s)) := congrArg Prod.snd h
  cases h2

theorem sum_at (I : Finset ℕ) (f : ℕ → CellTallies nD τ sig Unit) (g : GSem nD τ sig) :
    (∑ s ∈ I, f s) g () = ∑ s ∈ I, f s g () := by
  rw [Finset.sum_apply, Finsupp.finset_sum_apply]

theorem owed_bar (d c : Dev nD) : owedB d 0 (barCell c) () = ∑ s ∈ Finset.Ico 0 7, if rot (s + 1) d = c then 1 else 0 := by
  unfold owedB owedR
  rw [Pi.add_apply, Finsupp.add_apply, sum_at, sum_at,
    Finset.sum_eq_zero fun s _ => by rw [tallyAt_ne_cell (bar_ne_recv _ _ _)]; rfl, Nat.zero_add]
  refine Finset.sum_congr rfl fun s _ => ?_
  rw [tallyAt_apply]
  exact if_congr ⟨fun h => (bar_eq_iff.mp h.1).symm, fun h => ⟨bar_eq_iff.mpr h.symm, rfl⟩⟩ rfl rfl

theorem owed_recv (d c : Dev nD) {t : ℕ} (ht : t < 7) : owedB d 0 (recvCell c t) () = if rot (t + 1) d = c then N else 0 := by
  unfold owedB owedR
  rw [Pi.add_apply, Finsupp.add_apply, sum_at, sum_at,
    Finset.sum_eq_zero (s := Finset.Ico 0 7) (f := fun s => tallyAt (barCell (rot (s + 1) d)) () 1 (recvCell c t) ())
      fun s _ => by rw [tallyAt_ne_cell (bar_ne_recv _ _ _).symm]; rfl, Nat.add_zero,
    Finset.sum_eq_single t (fun s hs hst => by
      rw [tallyAt_apply]
      exact if_neg fun h => hst ((recv_eq_iff ht (Finset.mem_Ico.mp hs).2).mp h.1).2.symm)
      (fun h => absurd (Finset.mem_Ico.mpr ⟨Nat.zero_le _, ht⟩) h), tallyAt_apply]
  exact if_congr ⟨fun h => ((recv_eq_iff ht ht).mp h.1).1.symm, fun h => ⟨(recv_eq_iff ht ht).mpr ⟨h.symm, rfl⟩, rfl⟩⟩ rfl rfl

theorem units_in : ∀ c : Dev nD, (∑ d : Dev nD, ∑ s ∈ Finset.Ico 0 7, if rot (s + 1) d = c then 1 else 0) = 7 := by decide

theorem launch_bar (c : Dev nD) :
    tallyOn (barCell c) (launchCredit (Pipeline.owing fun d => owedB d 0) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  exact units_in c

theorem launch_recv (c : Dev nD) {t : ℕ} (ht : t < 7) :
    tallyOn (recvCell c t) (launchCredit (Pipeline.owing fun d => owedB d 0) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c ht]
  have h := (rotEquiv (t + 1) (by omega)).sum_comp (fun d => if d = c then N else 0)
  exact h.trans ((Finset.sum_ite_eq' Finset.univ c fun _ => N).trans (if_pos (Finset.mem_univ _)))

def recvSems : Finset (SemLoc sig) := (Finset.range 7).image fun s => .dma (dq (14 + s))

omit [FloatOps F] in
theorem creds (c : Dev nD) :
    (Pipeline.launchCred (fun d => owedB d 0) c : sProp 𝕄)
      ⊢ iprop(cred (tallyAt (barCell c) () 7) ∗ bigSep (Finset.range 7) fun s => cred (tallyAt (recvCell c s) () N)) := by
  unfold Pipeline.launchCred
  rw [bigSep_univ_at _ (SemLoc.reg barS), launch_bar]
  refine sep_mono_right ?_
  have hsub : recvSems ⊆ Finset.univ.erase (SemLoc.reg barS) := by decide
  have e : (bigSep recvSems fun sm => (cred (tallyOn ((c : Thread nD τ), sm) (launchCredit (Pipeline.owing fun d => owedB d 0) 0 ((c : Thread nD τ), sm))) : sProp 𝕄))
      = bigSep (Finset.range 7) fun s => cred (tallyAt (recvCell c s) () N) := by
    unfold recvSems
    rw [bigSep_image_of_injOn (fun a ha b hb h => by
      have h3 : dq (14 + a) = dq (14 + b) := by injection h
      have h4 := congrArg Fin.val h3
      have ha : a < 7 := by simpa using ha
      have hb : b < 7 := by simpa using hb
      rw [dq_val (by omega), dq_val (by omega)] at h4
      omega)]
    exact bigSep_congr fun s hs => by rw [← launch_recv c (Finset.mem_range.mp hs)]
  rw [← e]
  exact bigSep_subset hsub

end Cert.A2A

end
-- ==== Proof.Launch.lean ====
/-
# The all-to-all product: the run of the whole program
-/
module

public import proofs.«01_k».proof.Proof.Setup
public import proofs.«01_k».proof.Proof.Gen.KernelIdeal.Points
public import Idealize.ShloMosaic.Lib.Pipeline.CollectiveSegs

@[expose] public section

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx (ix2 ix3 eq_ix2 eq_ix3)
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What the memory holds at the launch -/

/-- The one index of a one-element buffer. -/
def o1 : S1.Idx := fun a => ⟨0, by fin_cases a; decide⟩

def X₀ (c : Dev nD) : Vec F S4096x512 .f32 := m ((c : Thread nD τ).loc main_arg0)
def W₀ (c : Dev nD) : Vec F S4096x8192 .f32 := m ((c : Thread nD τ).loc main_arg1)
def sx₀ (c : Dev nD) : F .f32 := (m ((c : Thread nD τ).loc main_arg2) : Vec F S1 .f32) o1
def sw₀ (c : Dev nD) : F .f32 := (m ((c : Thread nD τ).loc main_arg3) : Vec F S1 .f32) o1
def V₀ (c : Dev nD) : Vec F S512x8192 .f32 := m ((c : Thread nD τ).loc main_v1)
/-- The result of device `c`. -/
def R₀ (c : Dev nD) : Vec F S512x8192 .f32 := OUT (W₀ m c) (sx₀ m c) (sw₀ m c) (XG (X₀ m) c)

/-! ## The pipeline's data -/

def start (c : Dev nD) : sProp 𝕄 :=
  iprop(G' (X₀ m) c ∗ (cred (tallyAt (barCell c) () 7) ∗ bigSep (Finset.range 7) fun s => cred (tallyAt (recvCell c s) () N))
    ∗ levAts L lv ∗ pt c main_arg1 Finset.univ (W₀ m c) ∗ pt c main_v1 Finset.univ (V₀ m c))

def Φ₀ (c : Dev nD) : sProp 𝕄 := iprop(start m c ∗ Scr c)
def Φ₁ (c : Dev nD) : sProp 𝕄 :=
  iprop(Zer c ∗ Loc4 c ∗ Scr c ∗ pt c main_arg1 Finset.univ (W₀ m c) ∗ pt c main_v1 Finset.univ (R₀ m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X₀ m c
    | ⟨1, _⟩ => SV (sx₀ m c)
    | ⟨2, _⟩ => SV (sw₀ m c)
  Φ t := match t with
    | ⟨0, _⟩ => Φ₀ m c
    | ⟨_ + 1, _⟩ => Φ₁ m c
  q _ := fullShare
  owed t := match t with
    | ⟨0, _⟩ => owedB c 0
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem one_elt (f : Vec F S1 .f32) : f = SV (f o1) := by
  funext i
  show f i = f o1
  refine congrArg f (funext fun a => Fin.ext ?_)
  fin_cases a
  have h : (i 0).val < 1 := (i 0).isLt
  show (i 0).val = 0
  omega

theorem before_x (c : Dev nD) (d) : (dats m ρ 0 c).before (0 : Fin 3) t0_0 d = X₀ m c := by
  unfold Dat.before; rw [if_pos (fetch0_0 t0_0)]
  funext i
  show m ((c : Thread nD τ).loc main_arg0) _ = m ((c : Thread nD τ).loc main_arg0) i
  refine congrArg _ (funext fun a => Fin.ext ?_)
  fin_cases a <;> simp <;> rfl
theorem before_sx (c : Dev nD) (d) : (dats m ρ 0 c).before (1 : Fin 3) t0_0 d = SV (sx₀ m c) := by
  unfold Dat.before; rw [if_pos (fetch0_1 t0_0)]
  refine (funext fun i => ?_ : _ = (m ((c : Thread nD τ).loc main_arg2) : Vec F S1 .f32)).trans (one_elt _)
  show m ((c : Thread nD τ).loc main_arg2) _ = m ((c : Thread nD τ).loc main_arg2) i
  refine congrArg _ (funext fun a => Fin.ext ?_)
  fin_cases a; simp; rfl
theorem before_sw (c : Dev nD) (d) : (dats m ρ 0 c).before (2 : Fin 3) t0_0 d = SV (sw₀ m c) := by
  unfold Dat.before; rw [if_pos (fetch0_2 t0_0)]
  refine (funext fun i => ?_ : _ = (m ((c : Thread nD τ).loc main_arg3) : Vec F S1 .f32)).trans (one_elt _)
  show m ((c : Thread nD τ).loc main_arg3) _ = m ((c : Thread nD τ).loc main_arg3) i
  refine congrArg _ (funext fun a => Fin.ext ?_)
  fin_cases a; simp; rfl

theorem pos_wts (c : Dev nD) :
    iprop((bigSep Finset.univ fun k : Fin 15 => atPos ER (kcell (c, k)) 0 ∅ 0)
        ∗ cred (tallyAt (barCell c) () 7) ∗ bigSep (Finset.range 7) fun s => cred (tallyAt (recvCell c s) () N))
      ⊢ (Wts c : sProp 𝕄) := by
  rw [cells_split c fun g => (atPos ER g 0 ∅ 0 : sProp 𝕄)]
  unfold Wts
  rw [bigSep_sep' (Finset.range 7) (fun s => (atPos ER (recvCell c s) 0 ∅ 0 : sProp 𝕄)) fun s => cred (tallyAt (recvCell c s) () N)]
  iintro ⟨⟨H1, H2, H3⟩, H4, H5⟩
  isplitl [H1 H4]; · isplitl [H1] <;> iassumption
  isplitl [H2]; · iexact H2
  isplitl [H3] <;> iassumption

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ
    ∗ stg c cc0_stg0_0 (X₀ m c) ∗ stg c cc0_stg1_0 (SV (sx₀ m c)) ∗ stg c cc0_stg2_0 (SV (sw₀ m c)))

theorem body_start (c : Dev nD) : bodyPre m ρ c
    ⊢ iprop(∃ K, (recs (X₀ m) K ∗ ows c (owedB c 0) ∗ levAts L lv) ∗ Toks c ∗ Wts c ∗ Loc4 c ∗ Scr c
      ∗ (pt c main_arg1 Finset.univ (W₀ m c) ∗ pt c main_v1 Finset.univ (V₀ m c)) ∗ Stg (X₀ m) c (sx₀ m c) (sw₀ m c)) := by
  unfold bodyPre Φ₀ start G' linear Dat.owesAt Pipeline.owesWithin
  rw [show (dats m ρ 0 c).owed t0_0.castSucc = owedB c 0 from rfl]
  simp only [before_x, before_sx, before_sw]
  iintro ⟨⟨⟨⟨%K, HR, Hat, HT, H4⟩, Hc, HL, Hw, Hv⟩, Hs⟩, ⟨%W, %hW, HO⟩, ⟨%d0, %g0, %hg0, Hx⟩, ⟨%d1, %g1, %hg1, H1⟩, ⟨%d2, %g2, %hg2, H2⟩⟩
  subst hg0; subst hg1; subst hg2
  iexists K
  isplitl [HR HO HL]
  · isplitl [HR]; · iexact HR
    isplitl [HO]
    · unfold ows; iexists W; iexact HO
    iexact HL
  isplitl [HT]; · iexact HT
  isplitl [Hat Hc]
  · iapply (pos_wts c)
    isplitl [Hat] <;> iassumption
  isplitl [H4]; · iexact H4
  isplitl [Hs]; · iexact Hs
  isplitl [Hw Hv]
  · isplitl [Hw] <;> iassumption
  unfold Stg
  isplitl [Hx]; · iexact Hx
  isplitl [H1] <;> iassumption

theorem body_end (c : Dev nD) : iprop(ows c 0 ∗ Zer c ∗ Loc4 c ∗ Scr c
      ∗ (pt c main_arg1 Finset.univ (W₀ m c) ∗ pt c main_v1 Finset.univ (R₀ m c)) ∗ Stg (X₀ m) c (sx₀ m c) (sw₀ m c))
    ⊢ bodyPost m ρ c := by
  unfold bodyPost Φ₁ Dat.owesAt Pipeline.owesWithin Stg ows
  rw [show (dats m ρ 0 c).owed t0_0.succ = 0 from rfl]
  iintro ⟨⟨%W, HO⟩, HZ, H4, Hs, ⟨Hw, Hv⟩, Hx, H1, H2⟩
  isplitl [HZ H4 Hs Hw Hv]
  · isplitl [HZ]; · iexact HZ
    isplitl [H4]; · iexact H4
    isplitl [Hs]; · iexact Hs
    isplitl [Hw] <;> iassumption
  isplitl [HO]
  · iexists W
    isplitr; · ipureintro; exact fun _ _ => Or.inl trivial
    iexact HO
  isplitl [Hx]
  · iexists _; isplitr; · (ipureintro; rfl)
    iexact Hx
  isplitl [H1]
  · iexists _; isplitr; · (ipureintro; rfl)
    iexact H1
  iexists _; isplitr; · (ipureintro; rfl)
  iexact H2

theorem body_run (c : Dev nD) : bodyPre m ρ c ⊢ wp frame (wpE (defs₀ (F := F)) 𝒱₀ (c : Thread nD τ) none) Set.univ (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => bodyPost m ρ c) := by
  refine (body_start m ρ c).trans ?_
  have h (K : Dev nD × Fin 15 → ℕ) :=
    (sound_body (X₀ m) K (W₀ m c) c (sx₀ m c) (sw₀ m c) (V₀ m c)).trans (Idealize.SL.Sem.wp_mono _ _ _ fun _ => body_end m ρ c)
  iintro ⟨%K, H⟩
  iapply (h K) $$ H

set_option maxRecDepth 4000 in
/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owedB d 0) c ∗ prngReg c (ρ c) ∗ G' (X₀ m) c)
      ⊢ |={Set.univ}=> iprop(start m c ∗ emp) := by
  rw [Pipeline.unscopedRestP_none, show cfg0.spec = spec0 from rfl, unscopedRest0_eq]
  iintro ⟨⟨Hw, Hv⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hw]; · iexact Hw
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ Scr
  iintro ⟨Hs, -, Hr⟩
  isplitl [Hs]; · iexact Hs
  iexact Hr

def Yd (c : Dev nD) : sProp 𝕄 :=
  iprop(unscopedSems0 c ∗ pt c main_arg1 Finset.univ (W₀ m c) ∗ pt c main_v1 Finset.univ (R₀ m c))

theorem phi1_exit (c : Dev nD) :
    (dats m ρ 0 c).Φ (Fin.last cfg0.N) ⊢ iprop(Yd m c ∗ Pipeline.ownSems0 osem c ∗ Pipeline.scopedRest cfg0.spec c) := by
  rw [show (dats m ρ 0 c).Φ (Fin.last cfg0.N) = Φ₁ m c from rfl, show cfg0.spec = spec0 from rfl, scopedRest0_eq, own_split]
  unfold Φ₁ Yd Zer Loc4 Scr
  rw [unscoped_eq]
  iintro ⟨⟨HB, HS, HV⟩, ⟨H1, H2, H3, H4⟩, Hs, Hw, Hv⟩
  isplitl [HB Hw Hv]
  · isplitl [HB]; · iexact HB
    isplitl [Hw] <;> iassumption
  isplitr [Hs]
  · isplitl [H1]; · iexact H1
    isplitl [H2]; · iexact H2
    isplitl [H3]; · iexact H3
    isplitl [H4]; · iexact H4
    isplitl [HS] <;> iassumption
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = W₀ m c ∧ s.mem ((c : Thread nD τ).loc main_v1) = R₀ m c

theorem read_end (c : Dev nD) (s' : Phys nD τ sig (Elt F)) :
    iprop(Yd m c ∗ emp ∗ SI s') ⊢ |={Set.univ}=> (iprop(⌜QY m c s'.mem⌝ ∗ SI s') : sProp 𝕄) := by
  unfold Yd
  iintro ⟨⟨Hu, Hw, Hv⟩, -, HSI⟩
  icombine HSI Hw gives %hw
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hw, Buf.eq_of_forall_mem_univ hv⟩
  iexact HSI

/-! ## The run -/

/-- What the run ends in: every argument as it was, the result of each device, every counter zero. -/
def Ends : PUnit × MemSt nD τ sig (Elt F) → Prop := fun r =>
  (∀ c : Dev nD, r.2.mem ((c : Thread nD τ).loc main_v1) = R₀ m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

set_option maxRecDepth 8000 in
theorem run_main : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := fun w => by fin_cases w <;> exact Nat.succ_pos _) (harr := arr_whole0) (hstage := stage_whole0) (hshare := share_eq m ρ)
    (hdistinct := winFacts0.arr_inj)
    (O₀ := fun c => owedB c 0) (howed₀ := fun _ => rfl) (howedN := fun _ => rfl)
    (L := L) (lv := lv) (hL := L_of_ne) (hwaits := waits m ρ)
    (G := G (X₀ m)) (G' := G' (X₀ m)) (u₀ := u₀)
    (hu₀ := by
      iintro Hu
      ihave H := (u_split (F := F)) $$ Hu
      icases H with ⟨HP, HX⟩
      imod (fund_ring (X₀ m)) $$ HX with HG
      imodintro
      isplitl [HP] <;> iassumption)
    (hglob := glob (X₀ m))
    (hA := fun _ _ => rfl) (hpf := fun _ k => k.elim0)
    (X := start m) (Y := Yd m) (Z := fun _ => iprop(emp))
    (hX := start_intro m ρ) (hin := phi0_intro m ρ) (hout := phi1_exit m ρ)
    (QY := QY m) (hY := read_end m)
    (hQ := fun s h hs => ⟨fun c => ⟨(h c).2.2.2.2,
        ((h c).1 (0 : Fin 3)).trans ((dats m ρ 0 c).arrAt_in (0 : Fin 3) rfl _), (h c).2.2.2.1,
        ((h c).1 (1 : Fin 3)).trans ((dats m ρ 0 c).arrAt_in (1 : Fin 3) rfl _),
        ((h c).1 (2 : Fin 3)).trans ((dats m ρ 0 c).arrAt_in (2 : Fin 3) rfl _)⟩, sem_eq_zero hs fun c => (h c).2.2.1⟩)

end Cert.A2A

end
-- ==== Proof.Same.lean ====
/-
# The printed program and its ideal reading have one text

The body table of the one is the body table of the other at every float values.
-/
module

public import proofs.«01_k».proof.Defs
public import proofs.«01_k».proof.Proof.Gen.Kernel
public import proofs.«01_k».proof.Proof.Gen.KernelIdeal

@[expose] public section

namespace Cert.A2A

open Idealize.ShloMosaic

variable {F : FTy → Type} [FloatOps F]

theorem bodies_same : Cert.Kernel.defs₀ (F := F) = Cert.KernelIdeal.defs₀ (F := F) := by
  refine congrArg Defs.onTc (funext fun l => ?_)
  match l with
  | 0 => funext x; rfl

theorem defs_same : Cert.Kernel.defs (F := F) = Cert.KernelIdeal.defs (F := F) := by
  unfold Cert.Kernel.defs Cert.KernelIdeal.defs
  exact congrArg (Idealize.ShloMosaic.Pipeline.defs Cert.KernelIdeal.pcfgs) bodies_same

theorem main_same : Cert.Kernel.main (F := F) = Cert.KernelIdeal.main (F := F) := rfl

end Cert.A2A

end
-- ==== Proof.Value.lean ====
/-
# The values at the ideal instance

Every result is read at an index: the kernel's, the reference's and the clipped reference's are one function of
one sum of products.
-/
module

public import proofs.«01_k».proof.Defs
public import proofs.«01_k».proof.Proof.Gen.ReferenceIdeal
public import proofs.«01_k».proof.Proof.Gen.ClippedIdeal
public import proofs.«01_k».proof.Proof.Gen.On_clip_is_idle
public import proofs.«01_k».proof.Proof.Base
public import Idealize.ShloMosaic.Lib.Layout
public import Idealize.ShloMosaic.Lib.Pointwise

@[expose] public section

noncomputable section

namespace Cert.A2A

open Idealize.ShloMosaic

/-- The gate: `y` times its logistic. -/
def gate (y : EReal) : EReal := y * Ideal.logistic y

/-- One plus an exponential is not zero, so the quotient by it is the gate. -/
theorem div_gate (y : EReal) : Ideal.div y (1 + Ideal.exp (-y)) = gate y := by
  have hne : (1 + Ideal.exp (-y)) ≠ 0 := by
    have h0 : (0 : EReal) ≤ Ideal.exp (-y) := by
      induction y using EReal.rec with
      | bot => simp
      | top => simp
      | coe r => rw [← EReal.coe_neg, Ideal.exp_coe]; exact_mod_cast (Real.exp_pos (-r)).le
    exact (lt_of_lt_of_le zero_lt_one (le_add_of_nonneg_right h0)).ne'
  rw [gate, Ideal.logistic, Ideal.div, Ideal.div, if_neg hne, if_neg hne, one_mul]

/-- Element `(r, n)` of the product of a matrix of 4096 columns with the weights, times a scale. -/
def elem {R : ℕ} (X : (⟨2, ![R, 4096]⟩ : Shape).Idx → EReal) (w : (⟨2, ![4096, 8192]⟩ : Shape).Idx → EReal) (s : EReal) (r : Fin R) (n : Fin 8192) : EReal :=
  (∑ k : Fin 4096, X (ix2 r k) * w (ix2 k n)) * s

section Kernel

open Cert.KernelIdeal (S1 S4096x512 S4096x8192 S512x4096 S512x8192 S512x512 S1x512x512 S1x4096x512)

variable (x : Dev Cert.KernelIdeal.nD → Vec Ideal S4096x512 .f32) (w : Vec Ideal S4096x8192 .f32) (a b : Ideal .f32)

theorem ov_apply (g : Vec Ideal S512x4096 .fp8e4m3) (t : ℕ) (ht : t < 16) (j : S1x512x512.Idx) :
    OV w a b g t j = gate (elem g w (a * b) ⟨(j 1).val, (j 1).isLt⟩ ⟨512 * t + (j 2).val, by have : (j 2).val < 512 := (j 2).isLt; omega⟩) := by
  have hj : (j 2).val < 512 := (j 2).isLt
  pointwise [OV, W8, WV, Cert.KernelIdeal.Gen.k0_pay12, Cert.KernelIdeal.Gen.k0_pay13]
  simp only [Nat.mod_eq_of_lt (show 512 * t + (j 2).val < 8192 by omega)]
  rfl

theorem out_apply (g : Vec Ideal S512x4096 .fp8e4m3) (i : S512x8192.Idx) :
    OUT w a b g i = gate (elem g w (a * b) (i 0) (i 1)) := by
  have h1 : (i 1).val < 8192 := (i 1).isLt
  rw [OUT, ov_apply w a b g _ (by omega)]
  refine congrArg gate (congrArg₂ (elem g w (a * b)) rfl (Fin.ext ?_))
  show 512 * ((i 1).val / 512) + (i 1).val % 512 = (i 1).val
  omega

/-- The gathered rows of device `c` are the rows of its block of the whole matrix. -/
theorem gathered_row (X : (⟨2, ![4096, 4096]⟩ : Shape).Idx → EReal)
    (hx : ∀ p, x p = Layout.block ⟨2, ![4096, 512]⟩ ⟨2, ![4096, 4096]⟩ 1 8 p X) (c : Dev Cert.KernelIdeal.nD) (r : Fin 512) (k : Fin 4096) :
    XG x c (ix2 r k) = X (ix2 ⟨512 * c.val + r.val, by have : c.val < 8 := c.isLt; omega⟩ k) := by
  have hc : c.val < 8 := c.isLt
  pointwise [XG, XF, Cert.KernelIdeal.Gen.k0_pay1]
  rw [hx, Layout.block_apply]
  refine congrArg X (funext fun e => Fin.ext ?_)
  fin_cases e
  · exact (Layout.idx_cols_val _ _ _).1
  · refine (Layout.idx_cols_val _ _ _).2.trans ?_
    show k.val / 512 * 512 + k.val % 512 = k.val
    omega

/-- Device `c`'s result at row `r` is row `512 * c + r` of the gated product of the whole matrices. -/
theorem kernel_apply (X : (⟨2, ![4096, 4096]⟩ : Shape).Idx → EReal)
    (hx : ∀ p, x p = Layout.block ⟨2, ![4096, 512]⟩ ⟨2, ![4096, 4096]⟩ 1 8 p X) (c : Dev Cert.KernelIdeal.nD) (i : S512x8192.Idx) :
    OUT w a b (XG x c) i
      = gate (elem X w (a * b) ⟨512 * c.val + (i 0).val, by have : c.val < 8 := c.isLt; have : (i 0).val < 512 := (i 0).isLt; omega⟩ (i 1)) := by
  rw [out_apply]
  refine congrArg gate (congrArg (· * (a * b)) (Finset.sum_congr rfl fun k _ => ?_))
  exact congrArg (· * w (ix2 k (i 1))) (gathered_row x X hx c (i 0) k)

end Kernel

section Reference

open Cert.ReferenceIdeal Cert.ReferenceIdeal.Gen

variable (x : FVec Ideal S4096x4096 .f32) (w : FVec Ideal S4096x8192 .f32) (a b : FVec Ideal S1 .f32)

/-- The scaled product of the reference, -/
def scaled : FVec Ideal S4096x8192 .f32 :=
  mulf (Host.dotGeneral dot_S4096x4096_S4096x8192_S4096x8192_1_0_0_1_n_n none x w) (broadcastInDim S4096x8192 ![0, 1] bcast_S1x1_S4096x8192_0_1 (broadcastInDim S1x1 ![1] bcast_S1_S1x1_1 (mulf a b)))

/-- and its result: the product over one plus an exponential. -/
def result : FVec Ideal S4096x8192 .f32 :=
  Host.divf (scaled x w a b) (addf (broadcastInDim S4096x8192 ![] bcast_S_S4096x8192 (constant S_ .f32 0x3F800000#32)) (Host.exp (Host.negf (scaled x w a b))))

theorem scaled_apply (i : S4096x8192.Idx) :
    scaled x w a b i = elem x w (a (ix1 0) * b (ix1 0)) (i 0) (i 1) := by
  pointwise [scaled]
  rfl

theorem result_apply (i : S4096x8192.Idx) : result x w a b i = gate (elem x w (a (ix1 0) * b (ix1 0)) (i 0) (i 1)) := by
  rw [← scaled_apply, ← div_gate]
  pointwise [result]

/-- Device `c`'s result is block `c` of the reference's. -/
theorem kernel_block (xs : Dev Cert.KernelIdeal.nD → Vec Ideal Cert.KernelIdeal.S4096x512 .f32) (sx sw : Ideal .f32)
    (hx : ∀ p, xs p = Layout.block ⟨2, ![4096, 512]⟩ ⟨2, ![4096, 4096]⟩ 1 8 p x) (ha : sx = a (ix1 0)) (hb : sw = b (ix1 0))
    (c : Dev Cert.KernelIdeal.nD) :
    OUT w sx sw (XG xs c) = Layout.block ⟨2, ![512, 8192]⟩ ⟨2, ![4096, 8192]⟩ 0 8 c (result x w a b) := by
  funext i
  rw [kernel_apply xs w sx sw x hx c i, Layout.block_apply, result_apply, ha, hb]
  refine congrArg gate (congrArg₂ (elem x w _) (Fin.ext ?_) (Fin.ext ?_))
  · refine Eq.trans ?_ (Layout.idx_rows_val _ _ _).1.symm
    exact congrArg (· + (i 0).val) (Nat.mul_comm _ _)
  · exact (Layout.idx_rows_val _ _ _).2.symm

end Reference

section Clipped

open Cert.ClippedIdeal Cert.ClippedIdeal.Gen

variable (x : FVec Ideal S4096x4096 .f32) (w : FVec Ideal S4096x8192 .f32) (a b : FVec Ideal S1 .f32)

/-- The result of the reference with the exponent's argument clipped. -/
def clipped : FVec Ideal S4096x8192 .f32 :=
  Host.divf (scaled x w a b) (addf (broadcastInDim S4096x8192 ![] bcast_S_S4096x8192 (constant S_ .f32 0x3F800000#32)) (Host.exp (Host.negf (minimumf (broadcastInDim S4096x8192 ![] bcast_S_S4096x8192 (id (constant S_ .f32 0x42700000#32))) (maximumf (broadcastInDim S4096x8192 ![] bcast_S_S4096x8192 (id (constant S_ .f32 0xC2700000#32))) (scaled x w a b))))))

/-- Where the mask is set, the clip changes nothing. -/
theorem clipped_apply (i : S4096x8192.Idx) (h : Cert.On_clip_is_idle.fn (F := Ideal) x w a b i = 1#1) :
    clipped x w a b i = result x w a b i := by
  have h' : andi (cmpf .oge (scaled x w a b) (broadcastInDim S4096x8192 ![] bcast_S_S4096x8192 (constant S_ .f32 0xC2700000#32)))
      (cmpf .ole (scaled x w a b) (broadcastInDim S4096x8192 ![] bcast_S_S4096x8192 (constant S_ .f32 0x42700000#32))) i = 1#1 := h
  clear h
  revert h'
  pointwise [clipped, result]
  intro h
  have hb : ∀ p q : Bool, IntOp.andi (BitVec.ofBool p) (BitVec.ofBool q) = 1#1 → p = true ∧ q = true := by decide
  obtain ⟨hlo, hhi⟩ := hb _ _ h
  have hmax : max (id (constant (F := Ideal) S_ FTy.f32 3262119936#32) ix0) (scaled x w a b i) = scaled x w a b i :=
    max_eq_right (of_decide_eq_true hlo)
  have hmin : min (id (constant (F := Ideal) S_ FTy.f32 1114636288#32) ix0) (scaled x w a b i) = scaled x w a b i :=
    min_eq_right (of_decide_eq_true hhi)
  rw [hmax, hmin]

end Clipped

end Cert.A2A

end
-- ==== Proof.lean ====
/-
# The claims about the all-to-all product
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ClippedIdeal
public import proofs.«01_k».proof.Proof.Gen.On_clip_is_idle
public import proofs.«01_k».proof.Proof.Gen.ReferenceIdeal.Run
public import proofs.«01_k».proof.Proof.Gen.ClippedIdeal.Run
public import proofs.«01_k».proof.Proof.Launch
public import proofs.«01_k».proof.Proof.Same
public import proofs.«01_k».proof.Proof.Value

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => (h.1 c).2, h.2⟩) (Cert.A2A.run_main (F := Ideal) m ρ)

theorem frame_kernel : Cert.quiescent_Kernel := by
  intro m ρ _
  rw [Cert.A2A.defs_same, Cert.A2A.main_same]
  exact (θ_run Cert.KernelIdeal.defs _ _).mono (fun _ h => ⟨fun c => (h.1 c).2, h.2⟩) (Cert.A2A.run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_clipped : Cert.quiescent_ClippedIdeal := fun m ρ _ =>
  (θ_run Cert.ClippedIdeal.defs _ _).mono (fun r h => ⟨fun c => (h c).2, sem_eq_zero_of_no_sems (by decide) r.2⟩)
    (Cert.ClippedIdeal.Value.run (F := Ideal) m ρ)

/-- The kernel's run from blocks of whole arrays: device `c` ends with block `c` of the reference's result. -/
theorem run_block (m : (ℓ : Loc Cert.KernelIdeal.nD Cert.KernelIdeal.τ Cert.KernelIdeal.sig) → Buf (Elt Ideal) ℓ)
    (ρ : Dev Cert.KernelIdeal.nD → PrngReg) (x : FVec Ideal Cert.ReferenceIdeal.S4096x4096 .f32) (w : FVec Ideal Cert.ReferenceIdeal.S4096x8192 .f32)
    (a b : FVec Ideal Cert.ReferenceIdeal.S1 .f32)
    (h : ∀ c : Dev Cert.KernelIdeal.nD, Cert.A2A.X₀ m c = Layout.block ⟨2, ![4096, 512]⟩ ⟨2, ![4096, 4096]⟩ 1 8 c x
      ∧ Cert.A2A.W₀ m c = w ∧ Cert.A2A.sx₀ m c = a (ix1 0) ∧ Cert.A2A.sw₀ m c = b (ix1 0)) (c : Dev Cert.KernelIdeal.nD) :
    Cert.A2A.R₀ m c = Layout.block ⟨2, ![512, 8192]⟩ ⟨2, ![4096, 8192]⟩ 0 8 c (Cert.A2A.result x w a b) := by
  rw [Cert.A2A.R₀, (h c).2.1]
  exact Cert.A2A.kernel_block x w a b _ _ _ (fun p => (h p).1) (h c).2.2.1 (h c).2.2.2 c

theorem one_index (i : (⟨1, ![1]⟩ : Shape).Idx) : i = ix1 0 := by
  funext e
  fin_cases e
  exact Subsingleton.elim (α := Fin 1) _ _

theorem algebraic : Cert.algebraic_KernelIdeal_ReferenceIdeal := by
  intro m ρ m' ρ' _ h
  have hb := run_block m ρ _ _ _ _ fun c => ⟨(h c).1, (h c).2.1,
    (congrFun (h c).2.2.1 Cert.A2A.o1).trans (congrArg _ (one_index _)), (congrFun (h c).2.2.2 Cert.A2A.o1).trans (congrArg _ (one_index _))⟩
  refine ⟨_, (θ_run Cert.KernelIdeal.defs _ _).mono (fun r hr c => ⟨(hr.1 c).1.trans (hb c), (hr.1 c).2⟩) (Cert.A2A.run_main (F := Ideal) m ρ),
    (θ_run Cert.ReferenceIdeal.defs _ _).mono (fun r hr => ?_) (Cert.ReferenceIdeal.Value.run (F := Ideal) m' ρ')⟩
  exact hr 0

theorem algebraic_clipped : Cert.algebraic_KernelIdeal_ClippedIdeal_on_clip_is_idle := by
  intro m ρ m' ρ' _ h
  have hb := run_block m ρ _ _ _ _ fun c => ⟨(h c).1, (h c).2.1,
    (congrFun (h c).2.2.1 Cert.A2A.o1).trans (congrArg _ (one_index _)), (congrFun (h c).2.2.2 Cert.A2A.o1).trans (congrArg _ (one_index _))⟩
  refine ⟨_, (θ_run Cert.KernelIdeal.defs _ _).mono (fun r hr c => ⟨fun i _ => congrFun ((hr.1 c).1.trans (hb c)) i, (hr.1 c).2⟩) (Cert.A2A.run_main (F := Ideal) m ρ),
    (θ_run Cert.ClippedIdeal.defs _ _).mono (fun r hr => ?_) (Cert.ClippedIdeal.Value.run (F := Ideal) m' ρ')⟩
  exact ⟨fun i hi => (congrFun (hr 0).1 i).trans (Cert.A2A.clipped_apply _ _ _ _ i hi), (hr 0).2⟩

theorem claim : Cert.Claim := ⟨Cert.Kernel.Gen.facts, Cert.KernelIdeal.Gen.facts, Cert.ReferenceIdeal.Gen.facts, Cert.ClippedIdeal.Gen.facts, Cert.On_clip_is_idle.Gen.facts,
  frame_kernel, frame_ideal, frame_reference, frame_clipped, trivial, algebraic, algebraic_clipped⟩

end Cert.Proof

end
